-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_parts_KernelIdeal [hPre_small_parts_KernelIdeal : Cert.Pre_small_parts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_parts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_GuardedIdeal (m : (ℓ : Loc Cert.GuardedIdeal.nD Cert.GuardedIdeal.τ Cert.GuardedIdeal.sig) → Buf (Elt Ideal) ℓ) : Prop :=
  True

def Pre_GuardedIdeal_small_parts_GuardedIdeal [hPre_small_parts_GuardedIdeal : Cert.Pre_small_parts_GuardedIdeal.Facts] (m : (ℓ : Loc Cert.GuardedIdeal.nD Cert.GuardedIdeal.τ Cert.GuardedIdeal.sig) → Buf (Elt Ideal) ℓ) : Prop :=
  ∀ c : Dev Cert.GuardedIdeal.nD,
    (Cert.Pre_small_parts_GuardedIdeal.fn (F := Ideal) (m ((c.tc : Thread Cert.GuardedIdeal.nD Cert.GuardedIdeal.τ).loc Cert.GuardedIdeal.main_arg0)) (m ((c.tc : Thread Cert.GuardedIdeal.nD Cert.GuardedIdeal.τ).loc Cert.GuardedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_parts_KernelIdeal [hKernelIdeal : Cert.KernelIdeal.Facts] [hPre_small_parts_KernelIdeal : Cert.Pre_small_parts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_parts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GuardedIdeal [hGuardedIdeal : Cert.GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1))
      ∧ r.2.sem = fun _ => 0)

def quiescent_GuardedIdeal_pre_small_parts_GuardedIdeal [hGuardedIdeal : Cert.GuardedIdeal.Facts] [hPre_small_parts_GuardedIdeal : Cert.Pre_small_parts_GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal_small_parts_GuardedIdeal m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_GuardedIdeal_pre_small_parts_KernelIdeal [hKernelIdeal : Cert.KernelIdeal.Facts] [hGuardedIdeal : Cert.GuardedIdeal.Facts] [hPre_small_parts_KernelIdeal : Cert.Pre_small_parts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.GuardedIdeal.nD Cert.GuardedIdeal.τ Cert.GuardedIdeal.sig) → Buf (Elt Ideal) ℓ) (g' : Dev Cert.GuardedIdeal.nD → PrngReg), Pre_KernelIdeal_small_parts_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.GuardedIdeal.nD).tc : Thread Cert.GuardedIdeal.nD Cert.GuardedIdeal.τ).loc Cert.GuardedIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.GuardedIdeal.nD).tc : Thread Cert.GuardedIdeal.nD Cert.GuardedIdeal.τ).loc Cert.GuardedIdeal.main_arg1))) →
    ∃ (v0 : Buf (Elt Ideal) (((0 : Dev Cert.GuardedIdeal.nD).tc : Thread Cert.GuardedIdeal.nD Cert.GuardedIdeal.τ).loc Cert.GuardedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.GuardedIdeal.defs (F := Ideal)) (onTc (τ := Cert.GuardedIdeal.τ) (Cert.GuardedIdeal.main (F := Ideal))) ⟨m', fun _ => 0, g'⟩ (fun r =>
          r.2.mem (((0 : Dev Cert.GuardedIdeal.nD).tc : Thread Cert.GuardedIdeal.nD Cert.GuardedIdeal.τ).loc Cert.GuardedIdeal.main_v8) = v0
          ∧ r.2.mem (((0 : Dev Cert.GuardedIdeal.nD).tc : Thread Cert.GuardedIdeal.nD Cert.GuardedIdeal.τ).loc Cert.GuardedIdeal.main_arg0) = m' (((0 : Dev Cert.GuardedIdeal.nD).tc : Thread Cert.GuardedIdeal.nD Cert.GuardedIdeal.τ).loc Cert.GuardedIdeal.main_arg0)
          ∧ r.2.mem (((0 : Dev Cert.GuardedIdeal.nD).tc : Thread Cert.GuardedIdeal.nD Cert.GuardedIdeal.τ).loc Cert.GuardedIdeal.main_arg1) = m' (((0 : Dev Cert.GuardedIdeal.nD).tc : Thread Cert.GuardedIdeal.nD Cert.GuardedIdeal.τ).loc Cert.GuardedIdeal.main_arg1))

def Claim : Prop :=
  ∃ (hKernel : Cert.Kernel.Facts) (hKernelIdeal : Cert.KernelIdeal.Facts) (hReferenceIdeal : Cert.ReferenceIdeal.Facts) (hGuardedIdeal : Cert.GuardedIdeal.Facts) (hPre_small_parts_KernelIdeal : Cert.Pre_small_parts_KernelIdeal.Facts) (hPre_small_parts_GuardedIdeal : Cert.Pre_small_parts_GuardedIdeal.Facts),
    quiescent_Kernel (hKernel := hKernel)
    ∧ quiescent_KernelIdeal (hKernelIdeal := hKernelIdeal)
    ∧ quiescent_KernelIdeal_pre_small_parts_KernelIdeal (hKernelIdeal := hKernelIdeal) (hPre_small_parts_KernelIdeal := hPre_small_parts_KernelIdeal)
    ∧ quiescent_ReferenceIdeal (hReferenceIdeal := hReferenceIdeal)
    ∧ quiescent_GuardedIdeal (hGuardedIdeal := hGuardedIdeal)
    ∧ quiescent_GuardedIdeal_pre_small_parts_GuardedIdeal (hGuardedIdeal := hGuardedIdeal) (hPre_small_parts_GuardedIdeal := hPre_small_parts_GuardedIdeal)
    ∧ preserves_Kernel_KernelIdeal
    ∧ algebraic_KernelIdeal_ReferenceIdeal (hKernelIdeal := hKernelIdeal) (hReferenceIdeal := hReferenceIdeal)
    ∧ algebraic_KernelIdeal_GuardedIdeal_pre_small_parts_KernelIdeal (hKernelIdeal := hKernelIdeal) (hGuardedIdeal := hGuardedIdeal) (hPre_small_parts_KernelIdeal := hPre_small_parts_KernelIdeal)
-- ==== Pre_small_parts_GuardedIdeal.lean ====
abbrev S8192x8192 : Shape := ⟨2, ![8192, 8192]⟩
abbrev S8192x4096 : Shape := ⟨2, ![8192, 4096]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .bf16) (main_arg1 : FVec F S8192x4096 .bf16) : IVec S8192x4096 1 :=
  let main_v0 : FVec F S8192x8192 .f32 := (extf .f32 · bitsLt_bf16_f32) main_arg0
  let main_v1 : FVec F S8192x4096 .f32 := (extf .f32 · bitsLt_bf16_f32) main_arg1
  let main_v2 : FVec F S8192x4096 .f32 := (fun l r => Host.dotGeneral dot_S8192x8192_S8192x4096_S8192x4096_1_0_0_1_n_n none l r) main_v0 main_v1
  let main_v3 : FVec F S8192x4096 .f32 := Host.absf main_v2
  let main_cst : FVec F S_ .f32 := constant S_ .f32 0x40700000#32
  let main_v4 : FVec F S8192x4096 .f32 := broadcastInDim S8192x4096 ![] bcast_S_S8192x4096 main_cst
  let main_v5 : IVec S8192x4096 1 := cmpf .ole main_v3 main_v4
  main_v5
-- ==== Pre_small_parts_KernelIdeal.lean ====
abbrev S8192x512 : Shape := ⟨2, ![8192, 512]⟩
abbrev S512x4096 : Shape := ⟨2, ![512, 4096]⟩
abbrev S8192x4096 : Shape := ⟨2, ![8192, 4096]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  dot_S8192x512_S512x4096_S8192x4096_1_0_0_1_n_n_wf : DotDims.WF S8192x512 S512x4096 S8192x4096 [1] [0] [0] [1] [] []

variable [Facts]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def fn {F : FTy → Type} [FloatOps F] (main_arg0 : FVec F S8192x512 .bf16) (main_arg1 : FVec F S512x4096 .bf16) : IVec S8192x4096 1 :=
  let main_v0 : FVec F S8192x512 .f32 := (extf .f32 · bitsLt_bf16_f32) main_arg0
  let main_v1 : FVec F S512x4096 .f32 := (extf .f32 · bitsLt_bf16_f32) main_arg1
  let main_v2 : FVec F S8192x4096 .f32 := (fun l r => Host.dotGeneral dot_S8192x512_S512x4096_S8192x4096_1_0_0_1_n_n none l r) main_v0 main_v1
  let main_v3 : FVec F S8192x4096 .f32 := Host.absf main_v2
  let main_cst : FVec F S_ .f32 := constant S_ .f32 0x40700000#32
  let main_v4 : FVec F S8192x4096 .f32 := broadcastInDim S8192x4096 ![] bcast_S_S8192x4096 main_cst
  let main_v5 : IVec S8192x4096 1 := cmpf .ole main_v3 main_v4
  main_v5
-- ==== Kernel.lean ====
abbrev S8192x512 : Shape := ⟨2, ![8192, 512]⟩
abbrev S512x4096 : Shape := ⟨2, ![512, 4096]⟩
abbrev S4x512x1024 : Shape := ⟨3, ![4, 512, 1024]⟩
abbrev S4 : Shape := ⟨1, ![4]⟩
abbrev S_ : Shape := ⟨0, ![]⟩
abbrev S512x512 : Shape := ⟨2, ![512, 512]⟩
abbrev S512x2048 : Shape := ⟨2, ![512, 2048]⟩
abbrev S512x1024 : Shape := ⟨2, ![512, 1024]⟩
abbrev S1x512x1024 : Shape := ⟨3, ![1, 512, 1024]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S512x4096, .f32⟩
  | .local _ .vmem, ⟨0, _⟩ => ⟨S8192x512, .bf16⟩
  | .local _ .vmem, ⟨1, _⟩ => ⟨S512x4096, .bf16⟩
  | .local _ .vmem, ⟨2, _⟩ => ⟨S512x4096, .f32⟩
  | .local _ .vmem, ⟨3, _⟩ => ⟨S4x512x1024, .bf16⟩
  | .local _ .vmem, ⟨4, _⟩ => ⟨S4x512x1024, .bf16⟩
  | .local _ .vmem, ⟨5, _⟩ => ⟨S4x512x1024, .bf16⟩
  | .local _ .vmem, ⟨6, _⟩ => ⟨S4x512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v30 : BitVec 32 := Scalar.subi v2 c1_i32_19
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c512_i32 : BitVec 32 := 512#32
  let v41 : BitVec 32 := Scalar.muli v40 c512_i32
  let v42 : Index := Scalar.indexCast v41
  let c0 : Index := 0#32
  ![v42.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_28 : BitVec 32 := 1#32
  let v48 : BitVec 32 := Scalar.addi v2 c1_i32_28
  let c16_i32_29 : BitVec 32 := 16#32
  let c0_i32_30 : BitVec 32 := 0#32
  let v49 : BitVec 1 := Scalar.cmpi .eq c16_i32_29 c0_i32_30
  let c1_i32_31 : BitVec 32 := 1#32
  let v50 : BitVec 32 := Scalar.select v49 c1_i32_31 c16_i32_29
  let v51 : BitVec 32 := Scalar.remsi v48 v50
  let c0_i32_33 : BitVec 32 := 0#32
  let v53 : BitVec 1 := Scalar.cmpi .slt v51 c0_i32_33
  let c0_i32_34 : BitVec 32 := 0#32
  let v54 : BitVec 1 := Scalar.cmpi .slt v50 c0_i32_34
  let v55 : BitVec 1 := Scalar.xori v53 v54
  let c0_i32_32 : BitVec 32 := 0#32
  let v52 : BitVec 1 := Scalar.cmpi .ne v51 c0_i32_32
  let v56 : BitVec 1 := Scalar.andi v55 v52
  let v57 : BitVec 32 := Scalar.addi v51 v50
  let v58 : BitVec 32 := Scalar.select v56 v57 v51
  let c512_i32_35 : BitVec 32 := 512#32
  let v59 : BitVec 32 := Scalar.muli v58 c512_i32_35
  let v60 : Index := Scalar.indexCast v59
  let c0_36 : Index := 0#32
  ![v60.toNat, 0]
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_46 : BitVec 32 := 1#32
  let v71 : BitVec 32 := Scalar.muli v13 c1_i32_46
  let v72 : BitVec 32 := Scalar.addi c0_i32_47 v71
  v72.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v86 : BitVec 32 := Scalar.muli v13 c1_i32_59
  let v87 : BitVec 32 := Scalar.addi c0_i32_60 v86
  v87.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_72 : BitVec 32 := 1#32
  let v101 : BitVec 32 := Scalar.muli v24 c1_i32_72
  let v102 : BitVec 32 := Scalar.addi c0_i32_73 v101
  v102.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_85 : BitVec 32 := 1#32
  let v116 : BitVec 32 := Scalar.muli v24 c1_i32_85
  let v117 : BitVec 32 := Scalar.addi c0_i32_86 v116
  v117.toNat
@[reducible] def k0_t1_loop : Scf.Loop 32 :=
  let c0_i32_91 : BitVec 32 := 0#32
  let c14_i32 : BitVec 32 := 14#32
  let v126 : BitVec 32 := Scalar.addi c0_i32_91 c14_i32
  let c1_i32_92 : BitVec 32 := 1#32
  ⟨c0_i32_91, v126, c1_i32_92⟩
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_200 : BitVec 32 := 2#32
  let v234 : BitVec 32 := Scalar.subi v2 c2_i32_200
  let c0_i32_91 : BitVec 32 := 0#32
  let c1_i32_92 : BitVec 32 := 1#32
  let arg15 : BitVec 32 := Scf.iv c0_i32_91 c1_i32_92 k0_t1
  let v235 : BitVec 32 := Scalar.subi v234 arg15
  let c16_i32_201 : BitVec 32 := 16#32
  let c0_i32_202 : BitVec 32 := 0#32
  let v236 : BitVec 1 := Scalar.cmpi .eq c16_i32_201 c0_i32_202
  let c1_i32_203 : BitVec 32 := 1#32
  let v237 : BitVec 32 := Scalar.select v236 c1_i32_203 c16_i32_201
  let v238 : BitVec 32 := Scalar.remsi v235 v237
  let c0_i32_205 : BitVec 32 := 0#32
  let v240 : BitVec 1 := Scalar.cmpi .slt v238 c0_i32_205
  let c0_i32_206 : BitVec 32 := 0#32
  let v241 : BitVec 1 := Scalar.cmpi .slt v237 c0_i32_206
  let v242 : BitVec 1 := Scalar.xori v240 v241
  let c0_i32_204 : BitVec 32 := 0#32
  let v239 : BitVec 1 := Scalar.cmpi .ne v238 c0_i32_204
  let v243 : BitVec 1 := Scalar.andi v242 v239
  let v244 : BitVec 32 := Scalar.addi v238 v237
  let v245 : BitVec 32 := Scalar.select v243 v244 v238
  let c512_i32_207 : BitVec 32 := 512#32
  let v246 : BitVec 32 := Scalar.muli v245 c512_i32_207
  let v247 : Index := Scalar.indexCast v246
  let c0_208 : Index := 0#32
  ![v247.toNat, 0]
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_212 : BitVec 32 := 2#32
  let v253 : BitVec 32 := Scalar.addi v2 c2_i32_212
  let c0_i32_91 : BitVec 32 := 0#32
  let c1_i32_92 : BitVec 32 := 1#32
  let arg15 : BitVec 32 := Scf.iv c0_i32_91 c1_i32_92 k0_t1
  let v254 : BitVec 32 := Scalar.addi v253 arg15
  let c16_i32_213 : BitVec 32 := 16#32
  let c0_i32_214 : BitVec 32 := 0#32
  let v255 : BitVec 1 := Scalar.cmpi .eq c16_i32_213 c0_i32_214
  let c1_i32_215 : BitVec 32 := 1#32
  let v256 : BitVec 32 := Scalar.select v255 c1_i32_215 c16_i32_213
  let v257 : BitVec 32 := Scalar.remsi v254 v256
  let c0_i32_217 : BitVec 32 := 0#32
  let v259 : BitVec 1 := Scalar.cmpi .slt v257 c0_i32_217
  let c0_i32_218 : BitVec 32 := 0#32
  let v260 : BitVec 1 := Scalar.cmpi .slt v256 c0_i32_218
  let v261 : BitVec 1 := Scalar.xori v259 v260
  let c0_i32_216 : BitVec 32 := 0#32
  let v258 : BitVec 1 := Scalar.cmpi .ne v257 c0_i32_216
  let v262 : BitVec 1 := Scalar.andi v261 v258
  let v263 : BitVec 32 := Scalar.addi v257 v256
  let v264 : BitVec 32 := Scalar.select v262 v263 v257
  let c512_i32_219 : BitVec 32 := 512#32
  let v265 : BitVec 32 := Scalar.muli v264 c512_i32_219
  let v266 : Index := Scalar.indexCast v265
  let c0_220 : Index := 0#32
  ![v266.toNat, 0]
def k0_off5 (k0_t1 : Fin k0_t1_loop.trips) : Fin 1 → Nat :=
  let c0_i32_91 : BitVec 32 := 0#32
  let c1_i32_92 : BitVec 32 := 1#32
  let arg15 : BitVec 32 := Scf.iv c0_i32_91 c1_i32_92 k0_t1
  let c4_i32 : BitVec 32 := 4#32
  let v229 : BitVec 32 := Scalar.remsi arg15 c4_i32
  ![v229.toNat]
def k0_off6 (k0_t1 : Fin k0_t1_loop.trips) : Fin 3 → Nat :=
  let c0_i32_91 : BitVec 32 := 0#32
  let c1_i32_92 : BitVec 32 := 1#32
  let arg15 : BitVec 32 := Scf.iv c0_i32_91 c1_i32_92 k0_t1
  let c4_i32 : BitVec 32 := 4#32
  let v229 : BitVec 32 := Scalar.remsi arg15 c4_i32
  let c0_i32_225 : BitVec 32 := 0#32
  let c0_i32_226 : BitVec 32 := 0#32
  ![v229.toNat, 0, 0]
def k0_off7 (k0_t1 : Fin k0_t1_loop.trips) (c1_i32_196 : BitVec 32) : Fin 3 → Nat :=
  let c0_i32_91 : BitVec 32 := 0#32
  let c1_i32_92 : BitVec 32 := 1#32
  let arg15 : BitVec 32 := Scf.iv c0_i32_91 c1_i32_92 k0_t1
  let v230 : BitVec 32 := Scalar.addi arg15 c1_i32_196
  let c4_i32_197 : BitVec 32 := 4#32
  let v231 : BitVec 32 := Scalar.remsi v230 c4_i32_197
  let c0_i32_227 : BitVec 32 := 0#32
  let c0_i32_228 : BitVec 32 := 0#32
  ![v231.toNat, 0, 0]
def k0_off8 (k0_t1 : Fin k0_t1_loop.trips) (c1_i32_196 : BitVec 32) : Fin 1 → Nat :=
  let c0_i32_91 : BitVec 32 := 0#32
  let c1_i32_92 : BitVec 32 := 1#32
  let arg15 : BitVec 32 := Scf.iv c0_i32_91 c1_i32_92 k0_t1
  let v230 : BitVec 32 := Scalar.addi arg15 c1_i32_196
  let c4_i32_197 : BitVec 32 := 4#32
  let v231 : BitVec 32 := Scalar.remsi v230 c4_i32_197
  ![v231.toNat]
def k0_off9 (k0_t1 : Fin k0_t1_loop.trips) : Fin 3 → Nat :=
  let c0_i32_91 : BitVec 32 := 0#32
  let c1_i32_92 : BitVec 32 := 1#32
  let arg15 : BitVec 32 := Scf.iv c0_i32_91 c1_i32_92 k0_t1
  let c1_i32_196 : BitVec 32 := 1#32
  let v230 : BitVec 32 := Scalar.addi arg15 c1_i32_196
  let c4_i32_197 : BitVec 32 := 4#32
  let v231 : BitVec 32 := Scalar.remsi v230 c4_i32_197
  let v286 : Index := Scalar.indexCast v231
  let c0_235 : Index := 0#32
  let c0_236 : Index := 0#32
  ![v286.toNat, 0, 0]
def k0_dev7 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_239 : BitVec 32 := 1#32
  let v297 : BitVec 32 := Scalar.muli v13 c1_i32_239
  let v298 : BitVec 32 := Scalar.addi c0_i32_240 v297
  v298.toNat
def k0_dev8 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_260 : BitVec 32 := 1#32
  let v332 : BitVec 32 := Scalar.muli v13 c1_i32_260
  let v333 : BitVec 32 := Scalar.addi c0_i32_261 v332
  v333.toNat
def k0_dev9 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_281 : BitVec 32 := 1#32
  let v367 : BitVec 32 := Scalar.muli v24 c1_i32_281
  let v368 : BitVec 32 := Scalar.addi c0_i32_282 v367
  v368.toNat
def k0_dev10 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_302 : BitVec 32 := 1#32
  let v402 : BitVec 32 := Scalar.muli v24 c1_i32_302
  let v403 : BitVec 32 := Scalar.addi c0_i32_303 v402
  v403.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_94 : BitVec 32 := 512#32
  let v127 : BitVec 32 := Scalar.muli v2 c512_i32_94
  let v128 : Index := Scalar.indexCast v127
  let c0_95 : Index := 0#32
  ![v128.toNat, 0]
abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GuardedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Cells.lean ====
/-
The ring of the sixteen devices, the four streams of partial sums that run round it, and the semaphore cells and
buffer slots each stream uses.

A STREAM is one quarter of the result's columns travelling one way round the ring: streams 0 and 1 go to the right
(each device hands its running sum to the next device), streams 2 and 3 to the left. A device makes fifteen sends
on each stream, numbered `0 … 14`; send `s` reads slot `s % 4` of the stream's buffer, lands in slot `(s + 1) % 4` of
the neighbour's, credits cell `s % 4` of the sender's send semaphores and cell `(s + 1) % 4` of the receiver's
receive semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The device to the right. -/
def nxt (c : Dev nD) : Dev nD := ⟨(c.val + 1) % 16, Nat.mod_lt _ (by decide)⟩
set_option backward.proofsInPublic true in
/-- The device to the left. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = prv c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = nxt c := by revert c; decide +kernel
theorem dev9_eq (c : Dev nD) : (⟨k0_dev9 c, k0_dev9_lt c⟩ : Dev nD) = prv c := by revert c; decide +kernel
theorem dev10_eq (c : Dev nD) : (⟨k0_dev10 c, k0_dev10_lt c⟩ : Dev nD) = prv c := by revert c; decide +kernel

/-! ## The streams -/

/-- Which way a stream goes. -/
abbrev goesRight (X : Fin 4) : Prop := X.val < 2

/-- The device stream `X` sends to, -/
def tgt (X : Fin 4) (c : Dev nD) : Dev nD := if goesRight X then nxt c else prv c
/-- and the one it receives from. -/
def src (X : Fin 4) (c : Dev nD) : Dev nD := if goesRight X then prv c else nxt c

theorem tgt_src (X : Fin 4) (c : Dev nD) : tgt X (src X c) = c := by revert X c; decide
theorem src_tgt (X : Fin 4) (c : Dev nD) : src X (tgt X c) = c := by revert X c; decide

/-- The stream of the same half-width that goes the other way. -/
def opp (X : Fin 4) : Fin 4 := match X with | 0 => 2 | 1 => 3 | 2 => 0 | 3 => 1

theorem opp_opp (X : Fin 4) : opp (opp X) = X := by revert X; decide
theorem tgt_opp (X : Fin 4) (c : Dev nD) : tgt (opp X) c = src X c := by revert X c; decide
theorem src_opp (X : Fin 4) (c : Dev nD) : src (opp X) c = tgt X c := by revert X c; decide

/-- The streams' buffers. -/
abbrev bufR (X : Fin 4) : Ref sig .tc := match X with | 0 => cc0_scratch0 | 1 => cc0_scratch1 | 2 => cc0_scratch2 | 3 => cc0_scratch3
abbrev bufM (X : Fin 4) : Memref sig .tc .vmem S4x512x1024 .bf16 :=
  match X with | 0 => Memref.whole cc0_scratch0 | 1 => Memref.whole cc0_scratch1 | 2 => Memref.whole cc0_scratch2 | 3 => Memref.whole cc0_scratch3

theorem slot_inb (s : ℕ) : ∀ a : Fin 3, (![s % 4, 0, 0] : Fin 3 → ℕ) a + S1x512x1024.size a ≤ S4x512x1024.size a := by
  intro a
  have h : s % 4 < 4 := Nat.mod_lt _ (by decide)
  match a with
  | 0 => show s % 4 + 1 ≤ 4; omega
  | 1 => show 0 + 512 ≤ 512; omega
  | 2 => show 0 + 1024 ≤ 1024; omega

/-- Slot `s % 4` of a stream's buffer. -/
def slotRect (s : ℕ) : Rect S4x512x1024 := Rect.unit (s := S4x512x1024) ![s % 4, 0, 0] S1x512x1024.size (slot_inb s)
/-- The slot as the transfers address it: a 512 × 1024 array. -/
abbrev slotS (X : Fin 4) (s : ℕ) : Memref sig .tc .vmem S1x512x1024 .bf16 := (bufM X).slice (slotRect s) (fun _ => rfl)
abbrev slotM (X : Fin 4) (s : ℕ) : Memref sig .tc .vmem S512x1024 .bf16 := (slotS X s).squeeze S512x1024 squeezes_S1x512x1024_S512x1024

theorem slotRect_eq {off : Fin 3 → ℕ} {inb} {s : ℕ} (h : off = ![s % 4, 0, 0]) :
    Rect.unit (s := S4x512x1024) off S1x512x1024.size inb = slotRect s := by subst h; rfl
theorem slotM_eq {X : Fin 4} {off : Fin 3 → ℕ} {inb} {s : ℕ} (h : off = ![s % 4, 0, 0]) :
    ((bufM X).slice (Rect.unit (s := S4x512x1024) off S1x512x1024.size inb) (fun _ => rfl)).squeeze S512x1024 squeezes_S1x512x1024_S512x1024 = slotM X s := by
  subst h; rfl

theorem slotRect_mod {s t : ℕ} (h : s % 4 = t % 4) : slotRect s = slotRect t := by
  unfold slotRect; congr 1; rw [h]

/-! ## The semaphores -/

/-- The runtime's barrier semaphore. -/
abbrev barS : Sem sig := (SemArray.scalar (sig.barrier 0 rfl) : Sems sig S_).sem

set_option backward.proofsInPublic true in
/-- Semaphore `j % 4` of stream `X`: of the send array (`b = 0`) or of the receive array (`b = 1`). -/
def dsem (X : Fin 4) (b : Fin 2) (j : ℕ) : DmaSem sig := ⟨3 + 8 * X.val + 4 * b.val + j % 4, by
  have := X.isLt; have := b.isLt; have : j % 4 < 4 := Nat.mod_lt _ (by decide)
  show _ < 35; omega⟩

theorem dsem_val (X : Fin 4) (b : Fin 2) (j : ℕ) : (dsem X b j : Fin 35).val = 3 + 8 * X.val + 4 * b.val + j % 4 := rfl

/-- The semaphore send `s` of stream `X` credits on its sender, -/
abbrev sSem (X : Fin 4) (s : ℕ) : DmaSem sig := dsem X 0 s
/-- and on its receiver. -/
abbrev rSem (X : Fin 4) (s : ℕ) : DmaSem sig := dsem X 1 (s + 1)

abbrev barCell (c : Dev nD) : GSem nD τ sig := ((c : Thread nD τ), .reg barS)
abbrev sCell (X : Fin 4) (s : ℕ) (c : Dev nD) : GSem nD τ sig := ((c : Thread nD τ), .dma (sSem X s))
abbrev rCell (X : Fin 4) (s : ℕ) (c : Dev nD) : GSem nD τ sig := ((c : Thread nD τ), .dma (rSem X s))

theorem dsem_mod {X : Fin 4} {b : Fin 2} {s t : ℕ} (h : s % 4 = t % 4) : dsem X b s = dsem X b t := by
  unfold dsem; congr 1; rw [h]

/-- The semaphore arrays the kernel is called with. -/
abbrev arr (X : Fin 4) (b : Fin 2) : DmaSems sig S4 :=
  match X, b with
  | 0, 0 => cc0_scratch4 | 0, 1 => cc0_scratch5 | 1, 0 => cc0_scratch6 | 1, 1 => cc0_scratch7
  | 2, 0 => cc0_scratch8 | 2, 1 => cc0_scratch9 | 3, 0 => cc0_scratch10 | 3, 1 => cc0_scratch11

theorem sem_inb (s : ℕ) : ∀ a : Fin 1, (![s % 4] : Fin 1 → ℕ) a + S1.size a ≤ S4.size a := by
  intro a
  have h : s % 4 < 4 := Nat.mod_lt _ (by decide)
  match a with
  | 0 => show s % 4 + 1 ≤ 4; omega

theorem arr_sem' (X : Fin 4) (b : Fin 2) (j : Fin 4) :
    (((arr X b).slice (Rect.unit (s := S4) ![j.val] S1.size (by have := sem_inb j.val; rwa [Nat.mod_eq_of_lt j.isLt] at this))).squeeze S_ squeezes_S1_S_).sem = dsem X b j.val := by
  revert X b j; decide +kernel

/-- Entry `j % 4` of an array is the semaphore of that number. -/
theorem arr_sem {X : Fin 4} {b : Fin 2} {off : Fin 1 → ℕ} {inb} {s : ℕ} (h : off = ![s % 4]) :
    (((arr X b).slice (Rect.unit (s := S4) off S1.size inb)).squeeze S_ squeezes_S1_S_).sem = dsem X b s := by
  subst h
  exact (arr_sem' X b ⟨s % 4, Nat.mod_lt _ (by decide)⟩).trans (dsem_mod (Nat.mod_mod _ _))

/-! ## The loop's offsets -/

theorem trips_eq : k0_t1_loop.trips = 14 := by decide
theorem off5_eq (k : Fin k0_t1_loop.trips) : k0_off5 k = ![k.val % 4] := by revert k; decide +kernel
theorem off6_eq (k : Fin k0_t1_loop.trips) : k0_off6 k = ![k.val % 4, 0, 0] := by revert k; decide +kernel
theorem off7_eq1 (k : Fin k0_t1_loop.trips) : k0_off7 k 1#32 = ![(k.val + 1) % 4, 0, 0] := by revert k; decide +kernel
theorem off7_eq2 (k : Fin k0_t1_loop.trips) : k0_off7 k 2#32 = ![(k.val + 2) % 4, 0, 0] := by revert k; decide +kernel
theorem off8_eq1 (k : Fin k0_t1_loop.trips) : k0_off8 k 1#32 = ![(k.val + 1) % 4] := by revert k; decide +kernel
theorem off8_eq2 (k : Fin k0_t1_loop.trips) : k0_off8 k 2#32 = ![(k.val + 2) % 4] := by revert k; decide +kernel
theorem off9_eq (k : Fin k0_t1_loop.trips) : k0_off9 k = ![(k.val + 1) % 4, 0, 0] := by revert k; decide +kernel

/-! ## The row blocks of the operand the kernel reads -/

/-- The device whose row block the right-going streams work on at send `s` of device `c`: `s + 1` to the left of it. -/
def chunkR (c : Dev nD) (s : ℕ) : ℕ := (c.val + 31 - s) % 16
/-- For the left-going streams: `s + 1` to the right of it. -/
def chunkL (c : Dev nD) (s : ℕ) : ℕ := (c.val + s + 1) % 16

theorem off1_eq (c : Dev nD) : k0_off1 c = ![512 * chunkR c 0, 0] := by revert c; decide +kernel
theorem off2_eq (c : Dev nD) : k0_off2 c = ![512 * chunkL c 0, 0] := by revert c; decide +kernel
theorem off3_eq (c : Dev nD) (k : Fin k0_t1_loop.trips) : k0_off3 c k = ![512 * chunkR c (k.val + 1), 0] := by revert c k; decide +kernel
theorem off4_eq (c : Dev nD) (k : Fin k0_t1_loop.trips) : k0_off4 c k = ![512 * chunkL c (k.val + 1), 0] := by revert c k; decide +kernel
theorem off10_eqR (c : Dev nD) : k0_off10 c = ![512 * chunkR c 15, 0] := by revert c; decide +kernel
theorem off10_eqL (c : Dev nD) : k0_off10 c = ![512 * chunkL c 15, 0] := by revert c; decide +kernel

end Cert.RingProof

end
-- ==== Proof.Contents.lean ====
/-
What each slot holds: the values that travel round the ring.

Device `c`'s send `s` on stream `X` carries the sum, rounded to bf16 at every hop, of the partial products of the
devices it has passed. `val X s c` is that value; it is the step of device `c` on what its neighbour's send `s - 1` brought.
-/
module

public import proofs.«01_k».proof.Proof.Cells

@[expose] public section

noncomputable section

namespace Cert.RingProof

open Cert.KernelIdeal Cert.KernelIdeal.Gen

open Idealize.ShloMosaic
open Idealize.ShloMosaic.TcCoe

variable {F : FTy → Type} [FloatOps F]

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- Device `c`'s column block of the left operand, as its staging buffer holds it, -/
def xstg (c : Dev nD) : (cc0_stg0_0 : Ref sig .tc).ty.Contents (Elt F) :=
  (win0_0.blk (0 : Fin 1)).view.read (Elt F) (m ((c : Thread nD τ).loc main_arg0))
/-- and its row block of the right operand. -/
def wstg (c : Dev nD) : (cc0_stg1_0 : Ref sig .tc).ty.Contents (Elt F) :=
  (win0_1.blk (0 : Fin 1)).view.read (Elt F) (m ((c : Thread nD τ).loc main_arg1))

theorem chunk_inb {q : ℕ} (hq : q < 16) : ∀ a : Fin 2, (![512 * q, 0] : Fin 2 → ℕ) a + S512x512.size a ≤ S8192x512.size a := by
  intro a
  match a with
  | 0 => show 512 * q + 512 ≤ 8192; omega
  | 1 => show 0 + 512 ≤ 512; omega

theorem chunkR_lt (c : Dev nD) (s : ℕ) : chunkR c s < 16 := Nat.mod_lt _ (by decide)
theorem chunkL_lt (c : Dev nD) (s : ℕ) : chunkL c s < 16 := Nat.mod_lt _ (by decide)

/-- The row block stream `X` works on at send `s` of device `c`. -/
def chunk (X : Fin 4) (c : Dev nD) (s : ℕ) : ℕ := if goesRight X then chunkR c s else chunkL c s
theorem chunk_lt (X : Fin 4) (c : Dev nD) (s : ℕ) : chunk X c s < 16 := by unfold chunk; split; exact chunkR_lt c s; exact chunkL_lt c s

/-- What a load of row block `q` of the left operand reads, -/
def xBlk (c : Dev nD) (q : ℕ) (hq : q < 16) : Vec F S512x512 .bf16 :=
  (Memref.whole cc0_stg0_0 : Memref sig .tc .vmem S8192x512 .bf16).view.readAt (Elt F) (Rect.unit (s := S8192x512) ![512 * q, 0] S512x512.size (chunk_inb hq)).toLoadRect (xstg m c)
/-- and of each half of the right operand's columns. -/
def wBlk0 (c : Dev nD) : Vec F S512x2048 .bf16 :=
  (Memref.whole cc0_stg1_0 : Memref sig .tc .vmem S512x4096 .bf16).view.readAt (Elt F) (Rect.unit (s := S512x4096) ![0, 0] S512x2048.size inb_S512x4096_S512x2048_0_0).toLoadRect (wstg m c)
def wBlk1 (c : Dev nD) : Vec F S512x2048 .bf16 :=
  (Memref.whole cc0_stg1_0 : Memref sig .tc .vmem S512x4096 .bf16).view.readAt (Elt F) (Rect.unit (s := S512x4096) ![0, 2048] S512x2048.size inb_S512x4096_S512x2048_0_2048).toLoadRect (wstg m c)

/-- The load at whatever spelling of the offset. -/
theorem xBlk_eq {c : Dev nD} {q : ℕ} {hq : q < 16} {off : Fin 2 → ℕ} {inb} (h : off = ![512 * q, 0]) :
    (Memref.whole cc0_stg0_0 : Memref sig .tc .vmem S8192x512 .bf16).view.readAt (Elt F) (Rect.unit (s := S8192x512) off S512x512.size inb).toLoadRect (xstg m c) = xBlk m c q hq := by
  subst h; rfl

/-- The partial product of device `c` for row block `q`, over each half of the columns. -/
def part0 (c : Dev nD) (q : ℕ) (hq : q < 16) : FVec F S512x2048 .f32 := k0_pay2 (xBlk m c q hq) (wBlk0 m c)
def part1 (c : Dev nD) (q : ℕ) (hq : q < 16) : FVec F S512x2048 .f32 := k0_pay3 (xBlk m c q hq) (wBlk1 m c)

/-- The partial product stream `X` adds at send `s` of device `c` (at `s = 15`: to the result). -/
def prt (X : Fin 4) (c : Dev nD) (s : ℕ) : FVec F S512x2048 .f32 :=
  if goesRight X then part0 m c (chunkR c s) (chunkR_lt c s) else part1 m c (chunkL c s) (chunkL_lt c s)

/-- The first value sent: the partial product's quarter, rounded. -/
def begin_ (X : Fin 4) (p : FVec F S512x2048 .f32) : FVec F S1x512x1024 .bf16 :=
  match X with | 0 => k0_pay14 (k0_pay13 p) | 1 => k0_pay12 p | 2 => k0_pay14 (k0_pay13 p) | 3 => k0_pay15 p
/-- A later one: what came, widened, plus the partial product's quarter, rounded. -/
def step (X : Fin 4) (p : FVec F S512x2048 .f32) (v : Vec F S1x512x1024 .bf16) : FVec F S1x512x1024 .bf16 :=
  match X with | 0 => k0_pay4 p v | 1 => k0_pay5 p v | 2 => k0_pay6 p v | 3 => k0_pay7 p v
/-- The result: the last sum `y`, not rounded, times its logistic. -/
def final (X : Fin 4) (p : FVec F S512x2048 .f32) (v : Vec F S1x512x1024 .bf16) : FVec F S512x1024 .f32 :=
  match X with | 0 => k0_pay18 p v | 1 => k0_pay20 (k0_pay19 p v) | 2 => k0_pay21 p v | 3 => k0_pay1 p v

/-- The value send `s` of stream `X` carries from device `c`. -/
def val (X : Fin 4) : ℕ → Dev nD → FVec F S1x512x1024 .bf16
  | 0, c => begin_ X (prt m X c 0)
  | s + 1, c => step X (prt m X c (s + 1)) (val X s (src X c))

/-- The quarter of the result's columns that stream `X` ends in on device `c`. -/
def res (X : Fin 4) (c : Dev nD) : FVec F S512x1024 .f32 := final X (prt m X c 15) (val m X 14 (src X c))

/-! ## What a transfer between two slots writes -/

omit [FloatOps F] in
/-- A slot written from another through their two-dimensional views holds what the other held. -/
theorem read_landed (X : Fin 4) (s t : ℕ) (fd : (slotM X t).view.ty.Contents (Elt F)) (fs : (slotM X s).view.ty.Contents (Elt F)) :
    (slotS X t).view.read (Elt F) ((slotM X t).view.write (Elt F) fd ((slotM X s).view.read (Elt F) fs) Finset.univ)
      = (slotS X s).view.read (Elt F) fs := by
  show (slotS X t).view.read (Elt F) (((slotS X t).view.reshape S512x1024 _).write (Elt F) fd (((slotS X s).view.reshape S512x1024 _).read (Elt F) fs) Finset.univ) = _
  rw [View.write_reshape_univ, View.read_write_univ]
  funext x
  show (slotS X s).view.read (Elt F) fs (Shape.reshapeEquiv _ ((Shape.reshapeEquiv _).symm x)) = _
  rw [Equiv.apply_symm_apply]

omit [FloatOps F] in
theorem set_slotM (X : Fin 4) (s : ℕ) : (slotM X s).view.set = (slotS X s).view.set := View.set_reshape _ _

end Cert.RingProof

end
-- ==== Proof.Schedule.lean ====
/-
The protocol of the ring, as a schedule of rounds on the semaphore cells.

A stream has the same shape on every device, and its fifteen sends are numbered. Send `s` of stream `X` from device `c`
pays two cells: one of `c`'s own send cells, which hands `c` its source slot back, and one of the neighbour's receive
cells, which hands the neighbour the landed slot. Round `s / 4` of either cell is send `s`.

A device may send into a neighbour's slot only once that slot is free there. The permission is the ownership of the slot,
together with the fact that the neighbour's receive cell has reached the round: a GIFT. The first gifts come with the
barrier's signals, and every later one comes with the landing of a send of the stream that runs the other way.
-/
module

public import proofs.«01_k».proof.Proof.Contents

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ring's own rounds: two duties at most on a cell. -/
abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Slots -/

/-- The credit of one slot's transfer. -/
def N : ℕ := (slotM 0 0).view.dmaCredit
theorem N_pos : 0 < N := View.dmaCredit_pos _ (by decide)
theorem credit_slotM (X : Fin 4) (s : ℕ) : (slotM X s).view.dmaCredit = N := by
  match X with | 0 => rfl | 1 => rfl | 2 => rfl | 3 => rfl

theorem slotM_mod (X : Fin 4) {s t : ℕ} (h : s % 4 = t % 4) : slotM X s = slotM X t := slotM_eq (off := ![s % 4, 0, 0]) (inb := slot_inb s) (by rw [h])

/-- Device `d`'s slot `s % 4` of stream `X`, with the buffer's contents, -/
def slotPts (X : Fin 4) (s : ℕ) (d : Dev nD) (f : Buf (Elt F) ((slotM X s).view.loc (d : Thread nD τ))) : sProp 𝕄 :=
  (slotM X s).view.loc (d : Thread nD τ) ↦[(slotM X s).view.set]{fullShare} f
/-- with whatever contents, -/
def slotAny (X : Fin 4) (s : ℕ) (d : Dev nD) : sProp 𝕄 := iprop(∃ f, slotPts X s d f)
/-- and holding the value `v`. -/
def slotAt (X : Fin 4) (s : ℕ) (d : Dev nD) (v : Vec F S1x512x1024 .bf16) : sProp 𝕄 :=
  iprop(∃ f, ⌜(slotS X s).view.read (Elt F) f = v⌝ ∗ slotPts X s d f)

omit [FloatOps F] in
instance slotPts_storable (X : Fin 4) (s : ℕ) (d : Dev nD) (f) : BI.Storable (upEmb : UEmb _ 𝕄) (slotPts (F := F) X s d f) := by unfold slotPts; infer_instance
omit [FloatOps F] in
instance slotAny_storable (X : Fin 4) (s : ℕ) (d : Dev nD) : BI.Storable (upEmb : UEmb _ 𝕄) (slotAny (F := F) X s d) := by unfold slotAny; infer_instance
omit [FloatOps F] in
instance slotAt_storable (X : Fin 4) (s : ℕ) (d : Dev nD) (v) : BI.Storable (upEmb : UEmb _ 𝕄) (slotAt (F := F) X s d v) := by unfold slotAt; infer_instance

omit [FloatOps F] in
theorem slotAny_mod (X : Fin 4) {s t : ℕ} (d : Dev nD) (h : s % 4 = t % 4) : (slotAny X s d : sProp 𝕄) = slotAny X t d := by
  unfold slotAny slotPts; rw [slotM_mod X h]

omit [FloatOps F] in
theorem slotAt_any (X : Fin 4) (s : ℕ) (d : Dev nD) (v) : (slotAt X s d v : sProp 𝕄) ⊢ slotAny X s d := by
  unfold slotAt slotAny
  iintro ⟨%f, -, H⟩
  iexists f; iexact H

/-! ## What the cells pay -/

/-- The permission for send `t` of stream `Y` from device `d`: the slot it lands in, and that the receiver's cell is ready. -/
def gift (Y : Fin 4) (t : ℕ) (d : Dev nD) : sProp 𝕄 :=
  if t ≤ 14 then iprop(slotAny Y (t + 1) (tgt Y d) ∗ reached ER (rCell Y t (tgt Y d)) (t / 4)) else iprop(emp)

/-- How far ahead the gift is that travels with a send of stream `X`. -/
def ahead (X : Fin 4) : ℕ := if goesRight X then 1 else 2

/-- Send `s` of stream `X` gives its sender the source slot back, -/
def sendPay (X : Fin 4) (s : ℕ) (c : Dev nD) : sProp 𝕄 := slotAny X s c
/-- and gives the receiver `d` the landed slot and a gift of the stream that runs the other way. -/
def recvPay (X : Fin 4) (s : ℕ) (d : Dev nD) : sProp 𝕄 :=
  iprop(slotAt X (s + 1) d (val m X s (src X d)) ∗ gift (opp X) (s + ahead X) d)
/-- The signal of the right neighbour gives device `d` the first two gifts of the streams that go right, the left
    neighbour's the first gift of those that go left. -/
def barPay (d : Dev nD) (b : Bool) : sProp 𝕄 :=
  if b then iprop(gift 0 0 d ∗ gift 0 1 d ∗ gift 1 0 d ∗ gift 1 1 d) else iprop(gift 2 0 d ∗ gift 3 0 d)

omit [FloatOps F] in
instance gift_storable (Y : Fin 4) (t : ℕ) (d : Dev nD) : BI.Storable (upEmb : UEmb _ 𝕄) (gift (F := F) Y t d) := by unfold gift; split <;> infer_instance
omit [FloatOps F] in
instance sendPay_storable (X : Fin 4) (s : ℕ) (d : Dev nD) : BI.Storable (upEmb : UEmb _ 𝕄) (sendPay (F := F) X s d) := by unfold sendPay; infer_instance
instance recvPay_storable (X : Fin 4) (s : ℕ) (d : Dev nD) : BI.Storable (upEmb : UEmb _ 𝕄) (recvPay (F := F) m X s d) := by unfold recvPay; infer_instance
omit [FloatOps F] in
instance barPay_storable (d : Dev nD) (b : Bool) : BI.Storable (upEmb : UEmb _ 𝕄) (barPay (F := F) d b) := by unfold barPay; split <;> infer_instance

/-! ## The schedule -/

/-- The number of the send that pays round `r` of the transfer semaphore numbered `n`. -/
def sendNo (n r : ℕ) : ℕ := if ((n - 3) / 4) % 2 = 0 then 4 * r + (n - 3) % 4 else 4 * r + ((n - 3) % 4 + 3) % 4
/-- The stream that semaphore belongs to. -/
def streamOf (n : ℕ) : Fin 4 := ⟨(n - 3) / 8 % 4, Nat.mod_lt _ (by decide)⟩

def dutiesAt (g : GSem nD τ sig) (r : ℕ) : Finset Bool :=
  if g.1.2 = .tc then
    match g.2 with
    | .reg q => if q = barS ∧ r = 0 then Finset.univ else ∅
    | .dma q => if 3 ≤ q.val ∧ sendNo q.val r ≤ 14 then {false} else ∅
  else ∅

def payAt (g : GSem nD τ sig) (r : ℕ) (b : Bool) : sProp 𝕄 :=
  match g.2 with
  | .reg _ => barPay g.1.1 b
  | .dma q => if ((q.val - 3) / 4) % 2 = 0 then sendPay (streamOf q.val) (sendNo q.val r) g.1.1 else recvPay m (streamOf q.val) (sendNo q.val r) g.1.1

def amountAt (g : GSem nD τ sig) : ℕ := match g.2 with | .reg _ => 1 | .dma _ => N

/-- The ring's rounds. -/
def ringRd : Rounds.Schedule (GSem nD τ sig) Bool 𝕄 where
  duties g r := dutiesAt g r
  unitless _ := False
  amount g _ _ := amountAt g
  payload g r d := payAt m g r d
  amount_pos g _ _ _ := by
    rcases g with ⟨t, q | q⟩
    · exact Nat.one_pos
    · exact N_pos

instance ringRd_payload_storable (g : GSem nD τ sig) (r : ℕ) (d : Bool) :
    BI.Storable (upEmb : UEmb _ 𝕄) ((ringRd (F := F) m).payload g r d) := by
  show BI.Storable upEmb (payAt m g r d)
  rcases g with ⟨t, q | q⟩
  · show BI.Storable upEmb (barPay t.1 d); infer_instance
  · show BI.Storable upEmb (if ((q.val - 3) / 4) % 2 = 0 then sendPay (streamOf q.val) (sendNo q.val r) t.1 else recvPay m (streamOf q.val) (sendNo q.val r) t.1)
    split <;> infer_instance

theorem sendNo_s (X : Fin 4) (s : ℕ) : sendNo (sSem X s).val (s / 4) = s := by
  rw [dsem_val]; have := X.isLt; unfold sendNo; show (if (3 + 8 * X.val + 4 * 0 + s % 4 - 3) / 4 % 2 = 0 then _ else _) = _
  rw [if_pos (by omega)]; show 4 * (s / 4) + (3 + 8 * X.val + 4 * 0 + s % 4 - 3) % 4 = s; omega
theorem sendNo_r (X : Fin 4) (s : ℕ) : sendNo (rSem X s).val (s / 4) = s := by
  rw [dsem_val]; have := X.isLt; unfold sendNo; show (if (3 + 8 * X.val + 4 * 1 + (s + 1) % 4 - 3) / 4 % 2 = 0 then _ else _) = _
  rw [if_neg (by omega)]; show 4 * (s / 4) + ((3 + 8 * X.val + 4 * 1 + (s + 1) % 4 - 3) % 4 + 3) % 4 = s; omega
theorem sendNo_lt {n r r' : ℕ} (h : r ≤ r') : sendNo n r ≤ sendNo n r' := by unfold sendNo; split <;> omega
theorem streamOf_s (X : Fin 4) (s : ℕ) : streamOf (sSem X s).val = X := by
  rw [dsem_val]; have := X.isLt; apply Fin.ext; show (3 + 8 * X.val + 4 * 0 + s % 4 - 3) / 8 % 4 = X.val; omega
theorem streamOf_r (X : Fin 4) (s : ℕ) : streamOf (rSem X s).val = X := by
  rw [dsem_val]; have := X.isLt; apply Fin.ext; show (3 + 8 * X.val + 4 * 1 + (s + 1) % 4 - 3) / 8 % 4 = X.val; omega
theorem three_le (X : Fin 4) (b : Fin 2) (j : ℕ) : 3 ≤ (dsem X b j : Fin 35).val := by rw [dsem_val]; omega

section Tables
variable (X : Fin 4) (s : ℕ) (c : Dev nD)

theorem duties_s (hs : s ≤ 14) : (ringRd (F := F) m).duties (sCell X s c) (s / 4) = {false} := by
  show (if (c : Thread nD τ).2 = .tc then (if 3 ≤ (sSem X s).val ∧ sendNo (sSem X s).val (s / 4) ≤ 14 then ({false} : Finset Bool) else ∅) else ∅) = _
  rw [if_pos rfl, if_pos ⟨three_le X 0 s, by rw [sendNo_s]; exact hs⟩]
theorem duties_r (hs : s ≤ 14) : (ringRd (F := F) m).duties (rCell X s c) (s / 4) = {false} := by
  show (if (c : Thread nD τ).2 = .tc then (if 3 ≤ (rSem X s).val ∧ sendNo (rSem X s).val (s / 4) ≤ 14 then ({false} : Finset Bool) else ∅) else ∅) = _
  rw [if_pos rfl, if_pos ⟨three_le X 1 (s + 1), by rw [sendNo_r]; exact hs⟩]
theorem duties_bar : (ringRd (F := F) m).duties (barCell c) 0 = Finset.univ := by
  show (if (c : Thread nD τ).2 = .tc then (if barS = barS ∧ 0 = 0 then (Finset.univ : Finset Bool) else ∅) else ∅) = _
  rw [if_pos rfl, if_pos ⟨rfl, rfl⟩]

/-- Past the fifteenth send a cell has no duty left. -/
theorem duties_s_done (hs : 15 ≤ s) (r : ℕ) (hr : s / 4 ≤ r) : (ringRd (F := F) m).duties (sCell X s c) r = ∅ := by
  show (if (c : Thread nD τ).2 = .tc then (if 3 ≤ (sSem X s).val ∧ sendNo (sSem X s).val r ≤ 14 then ({false} : Finset Bool) else ∅) else ∅) = _
  rw [if_pos rfl, if_neg]
  rintro ⟨-, h⟩
  have := sendNo_lt (n := (sSem X s).val) hr
  rw [sendNo_s] at this; omega
theorem duties_r_done (hs : 15 ≤ s) (r : ℕ) (hr : s / 4 ≤ r) : (ringRd (F := F) m).duties (rCell X s c) r = ∅ := by
  show (if (c : Thread nD τ).2 = .tc then (if 3 ≤ (rSem X s).val ∧ sendNo (rSem X s).val r ≤ 14 then ({false} : Finset Bool) else ∅) else ∅) = _
  rw [if_pos rfl, if_neg]
  rintro ⟨-, h⟩
  have := sendNo_lt (n := (rSem X s).val) hr
  rw [sendNo_r] at this; omega
theorem duties_bar_done (r : ℕ) (hr : 1 ≤ r) : (ringRd (F := F) m).duties (barCell c) r = ∅ := by
  show (if (c : Thread nD τ).2 = .tc then (if barS = barS ∧ r = 0 then (Finset.univ : Finset Bool) else ∅) else ∅) = _
  rw [if_pos rfl, if_neg (fun h => by omega)]

theorem amount_dma (t : Thread nD τ) (q : DmaSem sig) (r : ℕ) (b : Bool) : (ringRd (F := F) m).amount (t, .dma q) r b = N := rfl
theorem amount_bar (r : ℕ) (b : Bool) : (ringRd (F := F) m).amount (barCell c) r b = 1 := rfl

theorem expect_s (hs : s ≤ 14) : (ringRd (F := F) m).expect (sCell X s c) (s / 4) = N := by
  unfold Schedule.expect Schedule.amountOf; rw [duties_s m X s c hs, Finset.sum_singleton, amount_dma]
theorem expect_r (hs : s ≤ 14) : (ringRd (F := F) m).expect (rCell X s c) (s / 4) = N := by
  unfold Schedule.expect Schedule.amountOf; rw [duties_r m X s c hs, Finset.sum_singleton, amount_dma]
theorem expect_bar : (ringRd (F := F) m).expect (barCell c) 0 = 2 := by
  unfold Schedule.expect Schedule.amountOf
  rw [duties_bar, Finset.sum_congr rfl fun b _ => amount_bar m c 0 b, Finset.sum_const, Finset.card_univ, Fintype.card_bool, smul_eq_mul]

theorem payload_s (b : Bool) : (ringRd (F := F) m).payload (sCell X s c) (s / 4) b = sendPay X s c := by
  show (if (((sSem X s).val - 3) / 4) % 2 = 0 then sendPay (streamOf (sSem X s).val) (sendNo (sSem X s).val (s / 4)) c
    else recvPay m (streamOf (sSem X s).val) (sendNo (sSem X s).val (s / 4)) c) = _
  rw [if_pos (by rw [dsem_val]; show (3 + 8 * X.val + 4 * 0 + s % 4 - 3) / 4 % 2 = 0; omega), streamOf_s, sendNo_s]
theorem payload_r (b : Bool) : (ringRd (F := F) m).payload (rCell X s c) (s / 4) b = recvPay m X s c := by
  show (if (((rSem X s).val - 3) / 4) % 2 = 0 then sendPay (streamOf (rSem X s).val) (sendNo (rSem X s).val (s / 4)) c
    else recvPay m (streamOf (rSem X s).val) (sendNo (rSem X s).val (s / 4)) c) = _
  rw [if_neg (by rw [dsem_val]; show ¬(3 + 8 * X.val + 4 * 1 + (s + 1) % 4 - 3) / 4 % 2 = 0; omega), streamOf_r, sendNo_r]
theorem payload_bar (b : Bool) : (ringRd (F := F) m).payload (barCell c) 0 b = barPay c b := rfl

theorem rest_s (hs : s ≤ 14) : bigSep ((ringRd (F := F) m).duties (sCell X s c) (s / 4) \ ∅) (fun d => (ringRd (F := F) m).payload (sCell X s c) (s / 4) d) = slotAny X s c := by
  rw [Finset.sdiff_empty, duties_s m X s c hs, bigSep_singleton, payload_s]; rfl
theorem rest_r (hs : s ≤ 14) : bigSep ((ringRd (F := F) m).duties (rCell X s c) (s / 4) \ ∅) (fun d => (ringRd (F := F) m).payload (rCell X s c) (s / 4) d) = recvPay m X s c := by
  rw [Finset.sdiff_empty, duties_r m X s c hs, bigSep_singleton, payload_r]
theorem rest_bar : bigSep ((ringRd (F := F) m).duties (barCell c) 0 \ ∅) (fun d => (ringRd (F := F) m).payload (barCell c) 0 d) = iprop(barPay c true ∗ barPay c false) := by
  rw [Finset.sdiff_empty, duties_bar, bigSep_univ_eq_bigSepL [true, false] (by decide) (by decide), bigSepL_cons_cons, bigSepL_singleton,
    payload_bar, payload_bar]
  rfl

end Tables

/-! ## Levels -/

/-- Every index is its own level: `0` for the transfers a device makes and waits for itself, `1` for the barrier, `2 + s`
    for the landing of send `s`. -/
def L (g : GSem nD τ sig) : Finset ℕ := if g.1.2 = .tc then Finset.range 18 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 18 := if_pos rfl

/-- Everything owed is on a TensorCore's cell at an index of at least `n`. -/
def Above (n : ℕ) (O : CellTallies nD τ sig ℕ) : Prop := ∀ g i, 0 < O g i → g.1.2 = .tc ∧ n ≤ i ∧ i < 18

theorem Above.zero (n : ℕ) : Above n 0 := fun g i h => absurd h (Nat.lt_irrefl 0)
theorem Above.mono {n k : ℕ} {O} (h : Above n O) (hk : k ≤ n) : Above k O := fun g i hg => ⟨(h g i hg).1, hk.trans (h g i hg).2.1, (h g i hg).2.2⟩
theorem Above.add {n : ℕ} {O O'} (h : Above n O) (h' : Above n O') : Above n (O + O') := fun g i hg => by
  rw [Pi.add_apply, Finsupp.add_apply] at hg
  rcases Nat.eq_zero_or_pos (O g i) with h0 | h0
  · exact h' g i (by omega)
  · exact h g i h0
theorem Above.at {n i k : ℕ} (c : Dev nD) (sm : SemLoc sig) (hn : n ≤ i) (hi : i < 18) : Above n (tallyAt ((c : Thread nD τ), sm) i k) := fun g j hg => by
  rw [tallyAt_apply] at hg
  by_cases h : g = ((c : Thread nD τ), sm) ∧ j = i
  · obtain ⟨rfl, rfl⟩ := h; exact ⟨rfl, hn, hi⟩
  · rw [if_neg h] at hg; exact absurd hg (Nat.lt_irrefl 0)
theorem Above.sum {n : ℕ} (S : Finset ℕ) (O : ℕ → CellTallies nD τ sig ℕ) (h : ∀ s ∈ S, Above n (O s)) : Above n (∑ s ∈ S, O s) := by
  induction S using Finset.induction_on with
  | empty => exact Above.zero n
  | insert a S ha ih =>
    rw [Finset.sum_insert ha]
    exact (h a (Finset.mem_insert_self a S)).add (ih fun s hs => h s (Finset.mem_insert_of_mem hs))

omit [FloatOps F] in
/-- A device waits at index `i` while it owes at higher indices only. -/
theorem mayWait (c : Dev nD) (sm : SemLoc sig) (i : ℕ) (hi : i < 18) (O : CellTallies nD τ sig ℕ) (hO : Above (i + 1) O) :
    (levAts L lv : sProp 𝕄) ⊢ MayWait (c : Thread nD τ) sm i O :=
  MayOwe.of_cut (L := L) (lev := lv) i
    (fun p hp => by rw [Finset.mem_singleton.mp hp, L_tc]; exact Finset.mem_range.mpr hi)
    (fun g u hg => by
      have h := hO g u hg
      unfold L; rw [if_pos h.1]; exact Finset.mem_range.mpr h.2.2)
    (fun p hp => by rw [Finset.mem_singleton.mp hp]; exact le_refl i)
    (fun g u hg => (hO g u hg).2.1)

theorem ico_cut {t n : ℕ} (h : t < n) : Finset.Ico t n = insert t (Finset.Ico (t + 1) n) := by
  ext x; simp only [Finset.mem_insert, Finset.mem_Ico]; omega

/-- What device `c` owes the neighbour's receive cells for sends `t, …, 14` of stream `X`. -/
def oweS (X : Fin 4) (t : ℕ) (c : Dev nD) : CellTallies nD τ sig ℕ := ∑ s ∈ Finset.Ico t 15, tallyAt (rCell X s (tgt X c)) (2 + s) N

theorem oweS_succ (X : Fin 4) (t : ℕ) (c : Dev nD) (h : t ≤ 14) : oweS X t c = oweS X (t + 1) c + tallyAt (rCell X t (tgt X c)) (2 + t) N := by
  unfold oweS; rw [ico_cut (by omega : t < 15), Finset.sum_insert (by simp), add_comm]
theorem oweS_done (X : Fin 4) (t : ℕ) (c : Dev nD) (h : 15 ≤ t) : oweS X t c = 0 := by
  unfold oweS; rw [Finset.Ico_eq_empty (by omega), Finset.sum_empty]
theorem oweS_above (X : Fin 4) (t : ℕ) (c : Dev nD) : Above (2 + t) (oweS X t c) :=
  Above.sum _ _ fun s hs => Above.at _ _ (by have := Finset.mem_Ico.mp hs; omega) (by have := Finset.mem_Ico.mp hs; omega)

/-- What it owes on the four streams together. -/
def owe4 (t0 t1 t2 t3 : ℕ) (c : Dev nD) : CellTallies nD τ sig ℕ := oweS 0 t0 c + oweS 1 t1 c + oweS 2 t2 c + oweS 3 t3 c

theorem owe4_above {n t0 t1 t2 t3 : ℕ} (c : Dev nD) (h0 : n ≤ 2 + t0) (h1 : n ≤ 2 + t1) (h2 : n ≤ 2 + t2) (h3 : n ≤ 2 + t3) : Above n (owe4 t0 t1 t2 t3 c) :=
  ((((oweS_above 0 t0 c).mono h0).add ((oweS_above 1 t1 c).mono h1)).add ((oweS_above 2 t2 c).mono h2)).add ((oweS_above 3 t3 c).mono h3)

end Cert.RingProof

end
-- ==== Proof.Steps.lean ====
/-
The moves a device makes on one stream, each proved once for every stream, every send and every device: waiting for its
own send, waiting for its neighbour's, sending, and the hop that puts them together.
-/
module

public import proofs.«01_k».proof.Proof.Schedule

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-! ## The invariants -/

/-- A device's thirty-three cells: the barrier's, then the thirty-two transfer semaphores'. -/
def csem (k : Fin 33) : SemLoc sig := if k.val = 0 then .reg barS else .dma ⟨k.val + 2, by have := k.isLt; show _ < 35; omega⟩
def kcell (ck : Dev nD × Fin 33) : GSem nD τ sig := ((ck.1 : Thread nD τ), csem ck.2)

theorem csem_bar : csem 0 = .reg barS := rfl
theorem dsem_lt (X : Fin 4) (b : Fin 2) (j : ℕ) : 1 + 8 * X.val + 4 * b.val + j % 4 < 33 := by
  have := X.isLt; have := b.isLt; have : j % 4 < 4 := Nat.mod_lt _ (by decide); omega
theorem csem_dma (X : Fin 4) (b : Fin 2) (j : ℕ) : csem ⟨1 + 8 * X.val + 4 * b.val + j % 4, dsem_lt X b j⟩ = .dma (dsem X b j) := by
  unfold csem; rw [if_neg (by show ¬(1 + 8 * X.val + 4 * b.val + j % 4 = 0); omega)]
  congr 1; apply Fin.ext; rw [dsem_val]; show 1 + 8 * X.val + 4 * b.val + j % 4 + 2 = _; omega

/-- Every cell's invariant, each under some name. -/
def envI : sProp 𝕄 := bigSep Finset.univ fun ck : Dev nD × Fin 33 => iprop(∃ κ : ℕ, cellInv ER (ringRd m) κ (kcell ck))
/-- The invariants and the levels. -/
def env : sProp 𝕄 := iprop(envI m ∗ levAts L lv)

instance envI_persistent : BI.Persistent (envI (F := F) m) := by unfold envI; infer_instance
instance env_persistent : BI.Persistent (env (F := F) m) := by unfold env; infer_instance

theorem env_cell (ck : Dev nD × Fin 33) : env m ⊢ iprop(∃ κ : ℕ, cellInv ER (ringRd m) κ (kcell ck)) := by
  unfold env
  iintro ⟨H, -⟩
  iapply (show (envI m : sProp 𝕄) ⊢ _ from bigSep_elim (Finset.mem_univ ck)) $$ H
/-- A device waits at index `i` while it owes at higher indices only. -/
theorem env_mayWait (c : Dev nD) (sm : SemLoc sig) (i : ℕ) (hi : i < 18) (O : CellTallies nD τ sig ℕ) (hO : Above (i + 1) O) :
    (env m : sProp 𝕄) ⊢ MayWait (c : Thread nD τ) sm i O := by
  have h : (levAts L lv : sProp 𝕄) ⊢ MayWait (c : Thread nD τ) sm i O := mayWait c sm i hi O hO
  unfold env
  iintro ⟨-, H⟩
  iapply h $$ H
theorem env_bar (c : Dev nD) : env m ⊢ iprop(∃ κ : ℕ, cellInv ER (ringRd m) κ (barCell c)) := env_cell m (c, 0)
theorem env_dma (X : Fin 4) (b : Fin 2) (j : ℕ) (c : Dev nD) : env m ⊢ iprop(∃ κ : ℕ, cellInv ER (ringRd m) κ ((c : Thread nD τ), .dma (dsem X b j))) := by
  have h := env_cell m (c, ⟨1 + 8 * X.val + 4 * b.val + j % 4, dsem_lt X b j⟩)
  unfold kcell at h; rw [csem_dma] at h; exact h

/-! ## A stream's positions -/

/-- Where device `c` stands on the four cells of sends `s, …, s + 3`. -/
def posS (X : Fin 4) (t : ℕ) (c : Dev nD) : sProp 𝕄 := iprop(atPos ER (sCell X t c) (t / 4) ∅ 0 ∗ reached ER (sCell X t c) (t / 4))
def posR (X : Fin 4) (t : ℕ) (c : Dev nD) : sProp 𝕄 := iprop(atPos ER (rCell X t c) (t / 4) ∅ 0 ∗ reached ER (rCell X t c) (t / 4))
def winS (X : Fin 4) (s : ℕ) (c : Dev nD) : sProp 𝕄 := bigSep (Finset.Ico s (s + 4)) fun t => posS X t c
def winR (X : Fin 4) (s : ℕ) (c : Dev nD) : sProp 𝕄 := bigSep (Finset.Ico s (s + 4)) fun t => posR X t c

theorem sCell_succ (X : Fin 4) (s : ℕ) (c : Dev nD) : sCell X s c = sCell X (s + 4) c := by
  show ((c : Thread nD τ), SemLoc.dma (dsem X 0 s)) = ((c : Thread nD τ), SemLoc.dma (dsem X 0 (s + 4)))
  rw [dsem_mod (X := X) (b := 0) (s := s) (t := s + 4) (by omega)]
theorem rCell_succ (X : Fin 4) (s : ℕ) (c : Dev nD) : rCell X s c = rCell X (s + 4) c := by
  show ((c : Thread nD τ), SemLoc.dma (dsem X 1 (s + 1))) = ((c : Thread nD τ), SemLoc.dma (dsem X 1 (s + 4 + 1)))
  rw [dsem_mod (X := X) (b := 1) (s := s + 1) (t := s + 4 + 1) (by omega)]

omit [FloatOps F] in
theorem ico_sep (Φ : ℕ → sProp 𝕄) {t n : ℕ} (h : t < n) : bigSep (Finset.Ico t n) Φ = iprop(Φ t ∗ bigSep (Finset.Ico (t + 1) n) Φ) := by
  rw [ico_cut h]; exact bigSep_insert (by simp)
omit [FloatOps F] in
theorem ico_sep_last (Φ : ℕ → sProp 𝕄) {t n : ℕ} (h : t ≤ n) : bigSep (Finset.Ico t (n + 1)) Φ = iprop(Φ n ∗ bigSep (Finset.Ico t n) Φ) := by
  rw [show Finset.Ico t (n + 1) = insert n (Finset.Ico t n) from by ext x; simp only [Finset.mem_insert, Finset.mem_Ico]; omega]
  exact bigSep_insert (by simp)

omit [FloatOps F] in
theorem erase_sep (Φ : ℕ → sProp 𝕄) {S : Finset ℕ} {t : ℕ} (h : t ∈ S) : bigSep S Φ = iprop(Φ t ∗ bigSep (S.erase t) Φ) := bigSep_erase h

omit [FloatOps F] in
theorem winS_cut (X : Fin 4) (s : ℕ) (c : Dev nD) : (winS X s c : sProp 𝕄) = iprop(posS X s c ∗ bigSep (Finset.Ico (s + 1) (s + 4)) fun t => posS X t c) :=
  ico_sep _ (by omega)
omit [FloatOps F] in
theorem winS_snoc (X : Fin 4) (s : ℕ) (c : Dev nD) : (winS X (s + 1) c : sProp 𝕄) = iprop(posS X (s + 4) c ∗ bigSep (Finset.Ico (s + 1) (s + 4)) fun t => posS X t c) :=
  ico_sep_last (t := s + 1) (n := s + 4) _ (by omega)
omit [FloatOps F] in
theorem winR_cut (X : Fin 4) (s : ℕ) (c : Dev nD) : (winR X s c : sProp 𝕄) = iprop(posR X s c ∗ bigSep (Finset.Ico (s + 1) (s + 4)) fun t => posR X t c) :=
  ico_sep _ (by omega)
omit [FloatOps F] in
theorem winR_snoc (X : Fin 4) (s : ℕ) (c : Dev nD) : (winR X (s + 1) c : sProp 𝕄) = iprop(posR X (s + 4) c ∗ bigSep (Finset.Ico (s + 1) (s + 4)) fun t => posR X t c) :=
  ico_sep_last (t := s + 1) (n := s + 4) _ (by omega)

/-- The round a window's cell is at is reached there. -/
theorem winS_reached (X : Fin 4) (s t : ℕ) (c : Dev nD) (h : s ≤ t) (h' : t < s + 4) : (winS X s c : sProp 𝕄) ⊢ iprop(winS X s c ∗ reached ER (sCell X t c) (t / 4)) := by
  have hm : t ∈ Finset.Ico s (s + 4) := Finset.mem_Ico.mpr ⟨h, h'⟩
  unfold winS
  rw [erase_sep _ hm]
  conv => lhs; unfold posS
  conv => rhs; lhs; lhs; unfold posS
  iintro ⟨⟨Ha, #Hr⟩, H⟩
  isplitl
  · isplitr [H]
    · isplitl [Ha]; · iexact Ha
      iexact Hr
    · iexact H
  · iexact Hr
theorem winR_reached (X : Fin 4) (s t : ℕ) (c : Dev nD) (h : s ≤ t) (h' : t < s + 4) : (winR X s c : sProp 𝕄) ⊢ iprop(winR X s c ∗ reached ER (rCell X t c) (t / 4)) := by
  have hm : t ∈ Finset.Ico s (s + 4) := Finset.mem_Ico.mpr ⟨h, h'⟩
  unfold winR
  rw [erase_sep _ hm]
  conv => lhs; unfold posR
  conv => rhs; lhs; lhs; unfold posR
  iintro ⟨⟨Ha, #Hr⟩, H⟩
  isplitl
  · isplitr [H]
    · isplitl [Ha]; · iexact Ha
      iexact Hr
    · iexact H
  · iexact Hr

/-- What a device owes, whatever waits it has recorded. -/
def owesAny (c : Dev nD) (O : CellTallies nD τ sig ℕ) : sProp 𝕄 := iprop(∃ W, owes (c : Thread nD τ) O W)

section Wp

/-! ## The waits -/

/-- The wait for its own send `s` gives the device the source slot back. -/
theorem wait_send_wp (X : Fin 4) (s : ℕ) (c : Dev nD) (hs : s ≤ 14) {sem : DmaSem sig} (hsem : sem = sSem X s)
    {vs vd : Memref sig .tc .vmem S512x1024 .bf16} (hcr : vd.view.dmaCredit = N) {h₁ : vs.view.WordExact} {h₂ : vd.view.WordExact}
    (O : CellTallies nD τ sig ℕ) (hO : Above 1 O) {α : Type} {Ψ : α → sProp 𝕄} {k : PUnit → Prog (TpuEff nD τ sig (Elt F) Λ₀ .tc) α} :
    iprop(env m ∗ cred (tallyAt (sCell X s c) 0 N) ∗ owesAny c O ∗ winS X s c)
      ⊢ iprop(((owesAny c O ∗ winS X (s + 1) c ∗ slotAny X s c) -∗ wp frame (wpE (defs₀ (F := F)) 𝒱₀ (c : Thread nD τ) none) Set.univ (k ⟨⟩) Ψ)
        -∗ wp frame (wpE (defs₀ (F := F)) 𝒱₀ (c : Thread nD τ) none) Set.univ (.op (.waitDma2 sem vs vd h₁ h₂) k) Ψ) := by
  subst hsem
  have hmw : (env m : sProp 𝕄) ⊢ MayWait (c : Thread nD τ) (.dma (sSem X s)) 0 O:= env_mayWait m c _ 0 (by omega) O hO
  rw [winS_cut, winS_snoc]
  unfold owesAny
  conv => lhs; unfold posS
  iintro ⟨#Henv, Hc, ⟨%W, HO⟩, ⟨Hat, -⟩, Hw⟩ Hk
  ihave Hi := (env_dma m X 0 s c) $$ Henv
  icases Hi with ⟨%κ, #Hi⟩
  iapply (Rounds.wp_wait_rest_token 𝒱₀ ER (ringRd m) (c : Thread nD τ) none (κ := κ)
      (wpE_waitDma2_eq 𝒱₀ (c : Thread nD τ) none Set.univ) (Set.mem_univ _) 0 (O := O) (W := W) (R := s / 4) (m := 0) (T := ∅)
      ((Nat.zero_add _).trans (hcr.trans (expect_s m X s c hs).symm))) $$ [Hc HO Hat]
  · isplitr; · iexact Hi
    isplitl [Hc]; · rw [hcr]; iexact Hc
    isplitl [HO]; · iexact HO
    isplitr
    · iapply hmw; iexact Henv
    iexact Hat
  iintro ⟨HO, Hat, #Hr, Hpay⟩
  ihave Hs := (Entails.of_eq (rest_s m X s c hs)) $$ Hpay
  iapply Hk
  isplitl [HO]; · iexists _; iexact HO
  isplitr [Hs]
  · isplitl [Hat]
    · unfold posS
      rw [← sCell_succ, show (s + 4) / 4 = s / 4 + 1 by omega]
      isplitl [Hat]; · iexact Hat
      iexact Hr
    · iexact Hw
  · iexact Hs

/-- The wait for the neighbour's send `s` gives the device the landed slot and a gift of the other way's stream. -/
theorem wait_recv_wp (X : Fin 4) (s : ℕ) (c : Dev nD) (hs : s ≤ 14) {sem : DmaSem sig} (hsem : sem = rSem X s)
    {vs vd : Memref sig .tc .vmem S512x1024 .bf16} (hcr : vd.view.dmaCredit = N) {h₁ : vs.view.WordExact} {h₂ : vd.view.WordExact}
    (O : CellTallies nD τ sig ℕ) (hO : Above (3 + s) O) {α : Type} {Ψ : α → sProp 𝕄} {k : PUnit → Prog (TpuEff nD τ sig (Elt F) Λ₀ .tc) α} :
    iprop(env m ∗ cred (tallyAt (rCell X s c) (2 + s) N) ∗ owesAny c O ∗ winR X s c)
      ⊢ iprop(((owesAny c O ∗ winR X (s + 1) c ∗ slotAt X (s + 1) c (val m X s (src X c)) ∗ gift (opp X) (s + ahead X) c)
          -∗ wp frame (wpE (defs₀ (F := F)) 𝒱₀ (c : Thread nD τ) none) Set.univ (k ⟨⟩) Ψ)
        -∗ wp frame (wpE (defs₀ (F := F)) 𝒱₀ (c : Thread nD τ) none) Set.univ (.op (.waitDma2 sem vs vd h₁ h₂) k) Ψ) := by
  subst hsem
  have hO' : Above (2 + s + 1) O := by rw [show 2 + s + 1 = 3 + s by omega]; exact hO
  have hmw : (env m : sProp 𝕄) ⊢ MayWait (c : Thread nD τ) (.dma (rSem X s)) (2 + s) O:= env_mayWait m c _ (2 + s) (by omega) O hO'
  rw [winR_cut, winR_snoc]
  unfold owesAny
  conv => lhs; unfold posR
  iintro ⟨#Henv, Hc, ⟨%W, HO⟩, ⟨Hat, -⟩, Hw⟩ Hk
  ihave Hi := (env_dma m X 1 (s + 1) c) $$ Henv
  icases Hi with ⟨%κ, #Hi⟩
  iapply (Rounds.wp_wait_rest_token 𝒱₀ ER (ringRd m) (c : Thread nD τ) none (κ := κ)
      (wpE_waitDma2_eq 𝒱₀ (c : Thread nD τ) none Set.univ) (Set.mem_univ _) (2 + s) (O := O) (W := W) (R := s / 4) (m := 0) (T := ∅)
      ((Nat.zero_add _).trans (hcr.trans (expect_r m X s c hs).symm))) $$ [Hc HO Hat]
  · isplitr; · iexact Hi
    isplitl [Hc]; · rw [hcr]; iexact Hc
    isplitl [HO]; · iexact HO
    isplitr
    · iapply hmw; iexact Henv
    iexact Hat
  iintro ⟨HO, Hat, #Hr, Hpay⟩
  ihave Hs := (Entails.of_eq (rest_r m X s c hs)) $$ Hpay
  unfold recvPay
  icases Hs with ⟨Hs, Hg⟩
  iapply Hk
  isplitl [HO]; · iexists _; iexact HO
  isplitr [Hs Hg]
  · isplitl [Hat]
    · unfold posR
      rw [← rCell_succ, show (s + 4) / 4 = s / 4 + 1 by omega]
      isplitl [Hat]; · iexact Hat
      iexact Hr
    · iexact Hw
  isplitl [Hs]; · iexact Hs
  iexact Hg

/-! ## The send -/

theorem amount_slotM (X : Fin 4) (t s : ℕ) : (slotM X s).view.amount (.dma (rSem X t)) = N := (credit_slotM X s)

/-- Send `t` of stream `X`: it spends the permission for the neighbour's slot, and takes a gift along. -/
theorem send_wp (X : Fin 4) (t : ℕ) (c n : Dev nD) (ht : t ≤ 14) (hn : n = tgt X c) {sS sR : DmaSem sig} (hsS : sS = sSem X t) (hsR : sR = rSem X t)
    {vs vd : Memref sig .tc .vmem S512x1024 .bf16} (hvs : vs = slotM X t) (hvd : vd = slotM X (t + 1))
    {hsc : (vd : Memref sig (Dev.tc n : Thread nD τ).2.kind .vmem S512x1024 .bf16).view.ref.isScScratch = false}
    {h₁ : vs.view.WordExact} {h₂ : vd.view.WordExact}
    {h₃ : DmaTarget.Typed .vmem (.dma sR) (.remote (Dev.tc n : Thread nD τ) vd (.dma sS) hsc)}
    (O₁ O : CellTallies nD τ sig ℕ) (hO : O₁ = O + tallyAt (rCell X t (tgt X c)) (2 + t) N) {α : Type} {Ψ : α → sProp 𝕄} {k : PUnit → Prog (TpuEff nD τ sig (Elt F) Λ₀ .tc) α} :
    iprop(env m ∗ slotAt X t c (val m X t c) ∗ gift X t c ∗ gift (opp X) (t + ahead X) (tgt X c) ∗ owesAny c O₁
        ∗ (dutyTok ER (sCell X t c) (t / 4) false ∗ dutyTok ER (rCell X t (tgt X c)) (t / 4) false) ∗ reached ER (sCell X t c) (t / 4))
      ⊢ iprop(((owesAny c O ∗ cred (tallyAt (sCell X t c) 0 N)) -∗ wp frame (wpE (defs₀ (F := F)) 𝒱₀ (c : Thread nD τ) none) Set.univ (k ⟨⟩) Ψ)
        -∗ wp frame (wpE (defs₀ (F := F)) 𝒱₀ (c : Thread nD τ) none) Set.univ
            (.op (.enqueueDma vs (.remote (Dev.tc n : Thread nD τ) vd (.dma sS) hsc) (.dma sR) h₁ h₂ h₃) k) Ψ) := by
  subst hn hsS hsR hvs hvd
  unfold owesAny slotAt
  conv => lhs; rhs; rhs; lhs; unfold gift
  rw [if_pos ht]
  unfold slotAny
  iintro ⟨#Henv, ⟨%fs, %hfs, Hs⟩, ⟨⟨%fd, Hd⟩, #Hrd⟩, HF, ⟨%W, HO⟩, ⟨HtS, HtR⟩, #HrS⟩ Hk
  ihave Hi := (env_dma m X 0 t c) $$ Henv
  icases Hi with ⟨%κ₁, #Hi₁⟩
  ihave Hj := (env_dma m X 1 (t + 1) (tgt X c)) $$ Henv
  icases Hj with ⟨%κ₂, #Hi₂⟩
  unfold slotPts
  iapply (Rounds.wp_send_pointsTo_with 𝒱₀ ER (ringRd m) (c : Thread nD τ) none (κ₁ := κ₁) (κ₂ := κ₂)
      (r₁ := t / 4) (r₂ := t / 4) (d₁ := false) (d₂ := false) (fs := fs) (fd := fd) (q := fullShare) (F := gift (opp X) (t + ahead X) (tgt X c))
      (by rw [duties_s m X t c ht]; exact Finset.mem_singleton_self _) (by rw [duties_r m X t (tgt X c) ht]; exact Finset.mem_singleton_self _)
      (2 + t) 0 N (amount_slotM X t (t + 1)) rfl rfl O hO (W := W)
      (by rw [payload_s]; unfold sendPay slotAny slotPts; iintro H; iexists fs; iexact H)
      (by
        rw [payload_r]; unfold recvPay slotAt slotPts; rw [src_tgt]
        iintro ⟨H, HF⟩
        isplitl [H]
        · iexists _
          isplitr
          · ipureintro; exact (read_landed X t (t + 1) fd fs).trans hfs
          iexact H
        iexact HF)) $$ [Hs Hd HF HO HtS HtR]
  · isplitr; · iexact Hi₁
    isplitr; · iexact Hi₂
    isplitl [Hs]; · iexact Hs
    isplitl [Hd HF]
    · isplitl [Hd]; · iexact Hd
      iexact HF
    isplitl [HO]; · iexact HO
    isplitl [HtS]; · iexact HtS
    isplitr; · iexact HrS
    isplitl [HtR]; · iexact HtR
    iexact Hrd
  iintro ⟨Hc, HO⟩
  iapply Hk
  isplitl [HO]; · iexists W; iexact HO
  iexact Hc

end Wp

end Cert.RingProof

end
-- ==== Proof.Hop.lean ====
/-
One hop of one stream: the device waits for its last send and for its neighbour's, adds its own partial product to what
landed, and sends the sum on.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- The tokens send `t` pays with. -/
def payTok (X : Fin 4) (t : ℕ) (c : Dev nD) : sProp 𝕄 := iprop(dutyTok ER (sCell X t c) (t / 4) false ∗ dutyTok ER (rCell X t (tgt X c)) (t / 4) false)
/-- The credit of the landing of the neighbour's send `t`. -/
def recvCred (X : Fin 4) (t : ℕ) (c : Dev nD) : sProp 𝕄 := cred (tallyAt (rCell X t c) (2 + t) N)

/-- What device `c` holds of stream `X` once it has made send `s` and before it waits for it. -/
def streamSt (X : Fin 4) (s : ℕ) (c : Dev nD) : sProp 𝕄 :=
  iprop(cred (tallyAt (sCell X s c) 0 N) ∗ (bigSep (Finset.Ico s 15) fun t => recvCred X t c) ∗ winS X s c ∗ winR X s c
    ∗ bigSep (Finset.Ico (s + 1) 15) fun t => payTok X t c)

omit [FloatOps F] in
theorem read_stored (X : Fin 4) (s : ℕ) (f : (slotS X s).view.ty.Contents (Elt F)) (w : Vec F S1x512x1024 .bf16) :
    (slotS X s).view.read (Elt F) (((bufM X).access (slotRect s)).write (Elt F) f w Finset.univ) = w :=
  show (slotS X s).view.read (Elt F) ((slotS X s).view.write (Elt F) f w Finset.univ) = w from View.read_write_univ (v := (slotS X s).view) f w

/-- A slot's store: the slot holds what is stored. -/
theorem store_slot_wp (X : Fin 4) (s : ℕ) (c : Dev nD) {M : Memref sig .tc .vmem S4x512x1024 .bf16} (hM : M = bufM X) {off : Fin 3 → ℕ} {inb}
    (hoff : off = ![s % 4, 0, 0]) (w : Vec F S1x512x1024 .bf16)
    {hx : (M.access (Rect.unit (s := S4x512x1024) off S1x512x1024.size inb)).Stores Finset.univ} {hm}
    {α : Type} {Ψ : α → sProp 𝕄} {k : PUnit → Prog (TpuEff nD τ sig (Elt F) Λ₀ .tc) α} :
    (slotAny X s c : sProp 𝕄)
      ⊢ iprop((slotAt X s c w -∗ wp frame (wpE (defs₀ (F := F)) 𝒱₀ (c : Thread nD τ) none) Set.univ (k ⟨⟩) Ψ)
        -∗ wp frame (wpE (defs₀ (F := F)) 𝒱₀ (c : Thread nD τ) none) Set.univ
            (.op (.store M (Rect.unit (s := S4x512x1024) off S1x512x1024.size inb) w Finset.univ hx hm) k) Ψ) := by
  subst hM hoff
  unfold slotAny slotAt slotPts
  iintro ⟨%f, H⟩ Hk
  iapply (wp_store 𝒱₀ (c : Thread nD τ) none Set.univ (m := bufM X) (r := slotRect s) (Mk := Finset.univ) (S := (slotM X s).view.set) (by rw [set_slotM]; exact Finset.Subset.refl _)) $$ H
  iintro H
  iapply Hk
  iexists ((bufM X).access (slotRect s)).write (Elt F) f w Finset.univ
  isplitr
  · ipureintro; exact read_stored X s f w
  iexact H

/-- A slot's load reads what the slot holds. -/
theorem load_slot_wp (X : Fin 4) (s : ℕ) (c : Dev nD) (v : Vec F S1x512x1024 .bf16) {M : Memref sig .tc .vmem S4x512x1024 .bf16} (hM : M = bufM X) {off : Fin 3 → ℕ} {inb}
    (hoff : off = ![s % 4, 0, 0])
    {hl : M.view.LoadsAt (Rect.unit (s := S4x512x1024) off S1x512x1024.size inb).toLoadRect}
    {α : Type} {Ψ : α → sProp 𝕄} {k : Vec F S1x512x1024 .bf16 → Prog (TpuEff nD τ sig (Elt F) Λ₀ .tc) α} :
    (slotAt X s c v : sProp 𝕄)
      ⊢ iprop((slotAt X s c v -∗ wp frame (wpE (defs₀ (F := F)) 𝒱₀ (c : Thread nD τ) none) Set.univ (k v) Ψ)
        -∗ wp frame (wpE (defs₀ (F := F)) 𝒱₀ (c : Thread nD τ) none) Set.univ
            (.op (.load M (Rect.unit (s := S4x512x1024) off S1x512x1024.size inb).toLoadRect hl) k) Ψ) := by
  subst hM hoff
  unfold slotAt slotPts
  iintro ⟨%f, %hf, H⟩ Hk
  iapply (wp_load_rect 𝒱₀ (c : Thread nD τ) none Set.univ (m := bufM X) (r := slotRect s) (S := (slotM X s).view.set) (by rw [set_slotM]; exact Finset.Subset.refl _)) $$ H
  iintro H
  rw [show ((bufM X).access (slotRect s)).read (Elt F) f = v from hf]
  iapply Hk
  iexists f
  isplitr; · ipureintro; exact hf
  iexact H

/-- A load of a slot whatever it holds: some value comes. -/
theorem load_any_wp (X : Fin 4) (s : ℕ) (c : Dev nD) {M : Memref sig .tc .vmem S4x512x1024 .bf16} (hM : M = bufM X) {off : Fin 3 → ℕ} {inb}
    (hoff : off = ![s % 4, 0, 0])
    {hl : M.view.LoadsAt (Rect.unit (s := S4x512x1024) off S1x512x1024.size inb).toLoadRect}
    {α : Type} {Ψ : α → sProp 𝕄} {p : Prog (TpuEff nD τ sig (Elt F) Λ₀ .tc) α} :
    (slotAny X s c : sProp 𝕄)
      ⊢ iprop((slotAny X s c -∗ wp frame (wpE (defs₀ (F := F)) 𝒱₀ (c : Thread nD τ) none) Set.univ p Ψ)
        -∗ wp frame (wpE (defs₀ (F := F)) 𝒱₀ (c : Thread nD τ) none) Set.univ
            (.op (.load M (Rect.unit (s := S4x512x1024) off S1x512x1024.size inb).toLoadRect hl) fun _ => p) Ψ) := by
  subst hM hoff
  unfold slotAny slotPts
  iintro ⟨%f, H⟩ Hk
  iapply (wp_load_rect 𝒱₀ (c : Thread nD τ) none Set.univ (m := bufM X) (r := slotRect s) (S := (slotM X s).view.set) (by rw [set_slotM]; exact Finset.Subset.refl _)) $$ H
  iintro H
  iapply Hk
  iexists f
  iexact H

/-- The hop: from send `s` made to send `s + 1` made. -/
theorem hop_wp (X : Fin 4) (s : ℕ) (c n : Dev nD) (hs : s ≤ 13) (hn : n = tgt X c)
    {M : Memref sig .tc .vmem S4x512x1024 .bf16} (hM : M = bufM X) {off : Fin 3 → ℕ} {inb} (hoff : off = ![(s + 1) % 4, 0, 0])
    {sem₁ sem₂ sS sR : DmaSem sig} (h₁ : sem₁ = sSem X s) (h₂ : sem₂ = rSem X s) (hsS : sS = sSem X (s + 1)) (hsR : sR = rSem X (s + 1))
    {a₁ b₁ a₂ b₂ vs vd : Memref sig .tc .vmem S512x1024 .bf16} (hb₁ : b₁ = slotM X s) (hb₂ : b₂ = slotM X (s + 1))
    (hvs : vs = slotM X (s + 1)) (hvd : vd = slotM X (s + 2))
    {e₁ : a₁.view.WordExact} {e₂ : b₁.view.WordExact} {e₃ : a₂.view.WordExact} {e₄ : b₂.view.WordExact}
    {e₅ : M.view.LoadsAt (Rect.unit (s := S4x512x1024) off S1x512x1024.size inb).toLoadRect}
    {e₆ : M.view.LoadsAt (Rect.unit (s := S4x512x1024) off S1x512x1024.size inb).toLoadRect}
    {e₇ : (M.access (Rect.unit (s := S4x512x1024) off S1x512x1024.size inb)).Stores Finset.univ} {e₈}
    {hsc : (vd : Memref sig (Dev.tc n : Thread nD τ).2.kind .vmem S512x1024 .bf16).view.ref.isScScratch = false}
    {e₉ : vs.view.WordExact} {e₁₀ : vd.view.WordExact}
    {e₁₁ : DmaTarget.Typed .vmem (.dma sR) (.remote (Dev.tc n : Thread nD τ) vd (.dma sS) hsc)}
    (pay : Vec F S1x512x1024 .bf16 → Vec F S1x512x1024 .bf16) (hpay : ∀ v, pay v = step X (prt m X c (s + 1)) v)
    (O₁ O₂ : CellTallies nD τ sig ℕ) (hO : O₁ = O₂ + tallyAt (rCell X (s + 1) (tgt X c)) (2 + (s + 1)) N) (hab : Above (3 + s) O₁)
    {α : Type} {Ψ : α → sProp 𝕄} {k : PUnit → Prog (TpuEff nD τ sig (Elt F) Λ₀ .tc) α} :
    iprop(env m ∗ streamSt X s c ∗ owesAny c O₁ ∗ gift X (s + 1) c ∗ gift (opp X) (s + 1 + ahead X) (tgt X c))
      ⊢ iprop(((owesAny c O₂ ∗ streamSt X (s + 1) c ∗ slotAny X s c ∗ gift (opp X) (s + ahead X) c)
          -∗ wp frame (wpE (defs₀ (F := F)) 𝒱₀ (c : Thread nD τ) none) Set.univ (k ⟨⟩) Ψ)
        -∗ wp frame (wpE (defs₀ (F := F)) 𝒱₀ (c : Thread nD τ) none) Set.univ
            (.op (.waitDma2 sem₁ a₁ b₁ e₁ e₂) fun _ => .op (.waitDma2 sem₂ a₂ b₂ e₃ e₄) fun _ =>
              .op (.load M (Rect.unit (s := S4x512x1024) off S1x512x1024.size inb).toLoadRect e₅) fun v =>
              .op (.load M (Rect.unit (s := S4x512x1024) off S1x512x1024.size inb).toLoadRect e₆) fun _ =>
              .op (.store M (Rect.unit (s := S4x512x1024) off S1x512x1024.size inb) (pay v) Finset.univ e₇ e₈) fun _ =>
              .op (.enqueueDma vs (.remote (Dev.tc n : Thread nD τ) vd (.dma sS) hsc) (.dma sR) e₉ e₁₀ e₁₁) k) Ψ) := by
  have hcut : (streamSt X s c : sProp 𝕄) = iprop(cred (tallyAt (sCell X s c) 0 N) ∗ (recvCred X s c ∗ bigSep (Finset.Ico (s + 1) 15) fun t => recvCred X t c)
      ∗ winS X s c ∗ winR X s c ∗ (payTok X (s + 1) c ∗ bigSep (Finset.Ico (s + 1 + 1) 15) fun t => payTok X t c)) := by
    unfold streamSt
    rw [ico_sep (fun t => recvCred X t c) (by omega : s < 15), ico_sep (fun t => payTok X t c) (by omega : s + 1 < 15)]
  rw [hcut]
  iintro ⟨#Henv, ⟨HcS, ⟨HcR, HcRs⟩, HwS, HwR, Htok, Htoks⟩, HO, Hg, HF⟩ Hk
  iapply (wait_send_wp m X s c (by omega) h₁ (by rw [hb₁]; exact credit_slotM X s) O₁ (hab.mono (by omega))) $$ [HcS HO HwS]
  · isplitr; · iexact Henv
    isplitl [HcS]; · iexact HcS
    isplitl [HO]; · iexact HO
    iexact HwS
  iintro ⟨HO, HwS, Hsrc⟩
  iapply (wait_recv_wp m X s c (by omega) h₂ (by rw [hb₂]; exact credit_slotM X (s + 1)) O₁ hab) $$ [HcR HO HwR]
  · isplitr; · iexact Henv
    isplitl [HcR]; · unfold recvCred; iexact HcR
    isplitl [HO]; · iexact HO
    iexact HwR
  iintro ⟨HO, HwR, Hslot, Hgift⟩
  iapply (load_slot_wp X (s + 1) c (val m X s (src X c)) hM hoff) $$ Hslot
  iintro Hslot
  iapply (load_slot_wp X (s + 1) c (val m X s (src X c)) hM hoff) $$ Hslot
  iintro Hslot
  ihave Hslot := (slotAt_any X (s + 1) c _) $$ Hslot
  iapply (store_slot_wp X (s + 1) c hM hoff (pay (val m X s (src X c)))) $$ Hslot
  iintro Hslot
  rw [show pay (val m X s (src X c)) = val m X (s + 1) c from hpay _]
  ihave Hw := (winS_reached X (s + 1) (s + 1) c (le_refl _) (by omega)) $$ HwS
  icases Hw with ⟨HwS, #HrS⟩
  iapply (send_wp m X (s + 1) c n (by omega) hn hsS hsR hvs hvd O₁ O₂ hO) $$ [Hslot Hg HF HO Htok]
  · isplitr; · iexact Henv
    isplitl [Hslot]; · iexact Hslot
    isplitl [Hg]; · iexact Hg
    isplitl [HF]; · iexact HF
    isplitl [HO]; · iexact HO
    isplitl [Htok]; · unfold payTok; iexact Htok
    iexact HrS
  iintro ⟨HO, HcS⟩
  iapply Hk
  isplitl [HO]; · iexact HO
  isplitr [Hsrc Hgift]
  · unfold streamSt
    isplitl [HcS]; · iexact HcS
    isplitl [HcRs]; · iexact HcRs
    isplitl [HwS]; · iexact HwS
    isplitl [HwR]; · iexact HwR
    iexact Htoks
  isplitl [Hsrc]; · iexact Hsrc
  iexact Hgift

end Cert.RingProof

end
-- ==== Proof.Home.lean ====
/-
The slots a device holds between hops, and how the gifts are made of them.

While a stream runs, most of its slots are away: given to the neighbour, or held by a transfer. The slots named here are
the ones at home. A device gives one on with every send, to the stream of the other way.
-/
module

public import proofs.«01_k».proof.Proof.Hop

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- The slots at home of a stream that goes right, before its hop `s`: only the last sends leave any. -/
def homeR (X : Fin 4) (s : ℕ) (c : Dev nD) : sProp 𝕄 := bigSep (Finset.Ico 15 (s + 3)) fun t => slotAny X (t + 1) c
/-- Of a stream that goes left: one, and those of the last sends. -/
def homeL (X : Fin 4) (s : ℕ) (c : Dev nD) : sProp 𝕄 := bigSep (Finset.Ico (min (s + 2) 15) (s + 3)) fun t => slotAny X (t + 1) c
/-- What is left of it once the next gift is made. -/
def restL (X : Fin 4) (s : ℕ) (c : Dev nD) : sProp 𝕄 := bigSep (Finset.Ico (min (s + 3) 15) (s + 3)) fun t => slotAny X (t + 1) c

theorem streamSt_reached (X : Fin 4) (s t : ℕ) (c : Dev nD) (h : s ≤ t) (h' : t < s + 4) :
    (streamSt X s c : sProp 𝕄) ⊢ iprop(streamSt X s c ∗ reached ER (rCell X t c) (t / 4)) := by
  unfold streamSt
  iintro ⟨H₁, H₂, H₃, Hw, H₄⟩
  ihave Hw := (winR_reached X s t c h h') $$ Hw
  icases Hw with ⟨Hw, Hr⟩
  isplitr [Hr]
  · isplitl [H₁]; · iexact H₁
    isplitl [H₂]; · iexact H₂
    isplitl [H₃]; · iexact H₃
    isplitl [Hw]; · iexact Hw
    iexact H₄
  iexact Hr

omit [FloatOps F] in
theorem gift_mk (Y : Fin 4) (t : ℕ) (c : Dev nD) : iprop(slotAny Y (t + 1) c ∗ reached ER (rCell Y t c) (t / 4)) ⊢ (gift Y t (src Y c) : sProp 𝕄) := by
  unfold gift
  split
  · rw [tgt_src]
  · iintro -; iempintro

omit [FloatOps F] in
theorem gift_none (Y : Fin 4) (t : ℕ) (c : Dev nD) (h : 15 ≤ t) : (gift Y t c : sProp 𝕄) = iprop(emp) := by
  unfold gift; rw [if_neg (by omega)]

/-- The gift that travels right: the next slot of the left-going stream. -/
theorem give_left (Y : Fin 4) (s : ℕ) (c d : Dev nD) (hd : d = src Y c) :
    iprop(homeL Y s c ∗ streamSt Y s c) ⊢ (iprop(gift Y (s + 2) d ∗ restL Y s c ∗ streamSt Y s c) : sProp 𝕄) := by
  subst hd
  unfold homeL restL
  by_cases h : s + 2 ≤ 14
  · rw [show min (s + 2) 15 = s + 2 by omega, show min (s + 3) 15 = s + 3 by omega, ico_sep _ (show s + 2 < s + 3 by omega)]
    iintro ⟨⟨Hs, Hr⟩, Hst⟩
    ihave Hst := (streamSt_reached Y s (s + 2) c (by omega) (by omega)) $$ Hst
    icases Hst with ⟨Hst, Hre⟩
    isplitl [Hs Hre]
    · iapply (gift_mk Y (s + 2) c)
      isplitl [Hs]; · iexact Hs
      iexact Hre
    isplitl [Hr]; · iexact Hr
    iexact Hst
  · rw [show min (s + 2) 15 = 15 by omega, show min (s + 3) 15 = 15 by omega, gift_none Y (s + 2) (src Y c) (by omega)]
    iintro ⟨H, Hst⟩
    isplitr; · iempintro
    isplitl [H]; · iexact H
    iexact Hst

/-- The left-going stream's hop brings the slot it has sent from back home. -/
theorem home_left (Y : Fin 4) (s : ℕ) (c : Dev nD) : iprop(restL Y s c ∗ slotAny Y s c) ⊢ (homeL Y (s + 1) c : sProp 𝕄) := by
  unfold homeL restL
  rw [show min (s + 1 + 2) 15 = min (s + 3) 15 by rfl, show s + 1 + 3 = s + 3 + 1 by omega, ico_sep_last _ (show min (s + 3) 15 ≤ s + 3 by omega),
    slotAny_mod Y c (show s % 4 = (s + 3 + 1) % 4 by omega)]
  iintro ⟨H, Hs⟩
  isplitl [Hs]; · iexact Hs
  iexact H

/-- The gift that travels left: the slot the right-going stream has just sent from. -/
theorem give_right (X : Fin 4) (s : ℕ) (c d : Dev nD) (hd : d = src X c) :
    iprop(homeR X s c ∗ slotAny X s c ∗ streamSt X (s + 1) c) ⊢ (iprop(gift X (s + 3) d ∗ homeR X (s + 1) c ∗ streamSt X (s + 1) c) : sProp 𝕄) := by
  subst hd
  unfold homeR
  rw [slotAny_mod X c (show s % 4 = (s + 3 + 1) % 4 by omega)]
  by_cases h : s + 3 ≤ 14
  · rw [show Finset.Ico 15 (s + 3) = Finset.Ico 15 (s + 1 + 3) by rw [Finset.Ico_eq_empty (by omega), Finset.Ico_eq_empty (by omega)]]
    iintro ⟨Hh, Hs, Hst⟩
    ihave Hst := (streamSt_reached X (s + 1) (s + 3) c (by omega) (by omega)) $$ Hst
    icases Hst with ⟨Hst, Hre⟩
    isplitl [Hs Hre]
    · iapply (gift_mk X (s + 3) c)
      isplitl [Hs]; · iexact Hs
      iexact Hre
    isplitl [Hh]; · iexact Hh
    iexact Hst
  · rw [gift_none X (s + 3) (src X c) (by omega), show s + 1 + 3 = s + 3 + 1 by omega, ico_sep_last _ (show 15 ≤ s + 3 by omega)]
    iintro ⟨Hh, Hs, Hst⟩
    isplitr; · iempintro
    isplitl [Hh Hs]
    · isplitl [Hs]; · iexact Hs
      iexact Hh
    iexact Hst

/-! ## What is owed, one send less -/

theorem add_shift (a b : CellTallies nD τ sig ℕ) (d : CellTallies nD τ sig ℕ) : a + d + b = a + b + d := add_right_comm a d b

theorem owe4_step0 {t0 t1 t2 t3 : ℕ} (c : Dev nD) (h : t0 ≤ 14) : owe4 t0 t1 t2 t3 c = owe4 (t0 + 1) t1 t2 t3 c + tallyAt (rCell 0 t0 (tgt 0 c)) (2 + t0) N := by
  unfold owe4; rw [oweS_succ 0 t0 c h, add_shift _ (oweS 1 t1 c), add_shift _ (oweS 2 t2 c), add_shift _ (oweS 3 t3 c)]
theorem owe4_step1 {t0 t1 t2 t3 : ℕ} (c : Dev nD) (h : t1 ≤ 14) : owe4 t0 t1 t2 t3 c = owe4 t0 (t1 + 1) t2 t3 c + tallyAt (rCell 1 t1 (tgt 1 c)) (2 + t1) N := by
  unfold owe4; rw [oweS_succ 1 t1 c h, ← add_assoc, add_shift _ (oweS 2 t2 c), add_shift _ (oweS 3 t3 c)]
theorem owe4_step2 {t0 t1 t2 t3 : ℕ} (c : Dev nD) (h : t2 ≤ 14) : owe4 t0 t1 t2 t3 c = owe4 t0 t1 (t2 + 1) t3 c + tallyAt (rCell 2 t2 (tgt 2 c)) (2 + t2) N := by
  unfold owe4; rw [oweS_succ 2 t2 c h, ← add_assoc, add_shift _ (oweS 3 t3 c)]
theorem owe4_step3 {t0 t1 t2 t3 : ℕ} (c : Dev nD) (h : t3 ≤ 14) : owe4 t0 t1 t2 t3 c = owe4 t0 t1 t2 (t3 + 1) c + tallyAt (rCell 3 t3 (tgt 3 c)) (2 + t3) N := by
  unfold owe4; rw [oweS_succ 3 t3 c h, ← add_assoc]

/-! ## The operands' staging buffers -/

/-- The staging buffers of the two operands, holding device `c`'s blocks. -/
def xPts (c : Dev nD) : sProp 𝕄 := ((c : Thread nD τ).loc cc0_stg0_0) ↦{fullShare} xstg m c
def wPts (c : Dev nD) : sProp 𝕄 := ((c : Thread nD τ).loc cc0_stg1_0) ↦{fullShare} wstg m c

theorem load_x_wp (c : Dev nD) (q : ℕ) (hq : q < 16) {off : Fin 2 → ℕ} {inb} (h : off = ![512 * q, 0])
    {hl : (Memref.whole cc0_stg0_0 : Memref sig .tc .vmem S8192x512 .bf16).view.LoadsAt (Rect.unit (s := S8192x512) off S512x512.size inb).toLoadRect}
    {α : Type} {Ψ : α → sProp 𝕄} {k : Vec F S512x512 .bf16 → Prog (TpuEff nD τ sig (Elt F) Λ₀ .tc) α} :
    (xPts m c : sProp 𝕄)
      ⊢ iprop((xPts m c -∗ wp frame (wpE (defs₀ (F := F)) 𝒱₀ (c : Thread nD τ) none) Set.univ (k (xBlk m c q hq)) Ψ)
        -∗ wp frame (wpE (defs₀ (F := F)) 𝒱₀ (c : Thread nD τ) none) Set.univ
            (.op (.load (Memref.whole cc0_stg0_0) (Rect.unit (s := S8192x512) off S512x512.size inb).toLoadRect hl) k) Ψ) := by
  unfold xPts
  iintro H Hk
  iapply (wp_load 𝒱₀ (c : Thread nD τ) none Set.univ (m := Memref.whole cc0_stg0_0) (Finset.subset_univ _)) $$ H
  iintro H
  rw [xBlk_eq m (hq := hq) h]
  iapply Hk
  iexact H
theorem load_w0_wp (c : Dev nD)
    {hl : (Memref.whole cc0_stg1_0 : Memref sig .tc .vmem S512x4096 .bf16).view.LoadsAt (Rect.unit (s := S512x4096) ![0, 0] S512x2048.size inb_S512x4096_S512x2048_0_0).toLoadRect}
    {α : Type} {Ψ : α → sProp 𝕄} {k : Vec F S512x2048 .bf16 → Prog (TpuEff nD τ sig (Elt F) Λ₀ .tc) α} :
    (wPts m c : sProp 𝕄)
      ⊢ iprop((wPts m c -∗ wp frame (wpE (defs₀ (F := F)) 𝒱₀ (c : Thread nD τ) none) Set.univ (k (wBlk0 m c)) Ψ)
        -∗ wp frame (wpE (defs₀ (F := F)) 𝒱₀ (c : Thread nD τ) none) Set.univ
            (.op (.load (Memref.whole cc0_stg1_0) (Rect.unit (s := S512x4096) ![0, 0] S512x2048.size inb_S512x4096_S512x2048_0_0).toLoadRect hl) k) Ψ) := by
  unfold wPts
  iintro H Hk
  iapply (wp_load 𝒱₀ (c : Thread nD τ) none Set.univ (m := Memref.whole cc0_stg1_0) (Finset.subset_univ _)) $$ H
  iintro H
  iapply Hk
  iexact H
theorem load_w1_wp (c : Dev nD)
    {hl : (Memref.whole cc0_stg1_0 : Memref sig .tc .vmem S512x4096 .bf16).view.LoadsAt (Rect.unit (s := S512x4096) ![0, 2048] S512x2048.size inb_S512x4096_S512x2048_0_2048).toLoadRect}
    {α : Type} {Ψ : α → sProp 𝕄} {k : Vec F S512x2048 .bf16 → Prog (TpuEff nD τ sig (Elt F) Λ₀ .tc) α} :
    (wPts m c : sProp 𝕄)
      ⊢ iprop((wPts m c -∗ wp frame (wpE (defs₀ (F := F)) 𝒱₀ (c : Thread nD τ) none) Set.univ (k (wBlk1 m c)) Ψ)
        -∗ wp frame (wpE (defs₀ (F := F)) 𝒱₀ (c : Thread nD τ) none) Set.univ
            (.op (.load (Memref.whole cc0_stg1_0) (Rect.unit (s := S512x4096) ![0, 2048] S512x2048.size inb_S512x4096_S512x2048_0_2048).toLoadRect hl) k) Ψ) := by
  unfold wPts
  iintro H Hk
  iapply (wp_load 𝒱₀ (c : Thread nD τ) none Set.univ (m := Memref.whole cc0_stg1_0) (Finset.subset_univ _)) $$ H
  iintro H
  iapply Hk
  iexact H

end Cert.RingProof

end
-- ==== Proof.Loop.lean ====
/-
One trip of the kernel's loop: the four streams' hops, one after the other.
-/
module

public import proofs.«01_k».proof.Proof.Home

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- What device `c` holds before trip `s` of the loop: every stream has made send `s`. -/
def loopSt (s : ℕ) (c : Dev nD) : sProp 𝕄 :=
  iprop(env m ∗ owesAny c (owe4 (s + 1) (s + 1) (s + 1) (s + 1) c)
    ∗ (streamSt 0 s c ∗ streamSt 1 s c ∗ streamSt 2 s c ∗ streamSt 3 s c)
    ∗ (gift 0 (s + 1) c ∗ gift 1 (s + 1) c)
    ∗ (homeR 0 s c ∗ homeR 1 s c ∗ homeL 2 s c ∗ homeL 3 s c)
    ∗ xPts m c ∗ wPts m c)

set_option maxHeartbeats 4000000 in
set_option maxRecDepth 20000 in
/-- One trip. -/
theorem trip_wp (c : Dev nD) (v2 v13 v24 a b : BitVec 32) (k : Fin k0_t1_loop.trips) (acc : Unit) :
    (loopSt m k.val c : sProp 𝕄) ⊢ wp frame (wpE (defs₀ (F := F)) 𝒱₀ (c : Thread nD τ) none) Set.univ
      (k0_t1_body (F := F) (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7
        cc0_scratch8 cc0_scratch9 cc0_scratch10 cc0_scratch11 c v2 v13 v24 a b k acc)
      (fun _ => loopSt m (k.val + 1) c) := by
  have hk : k.val ≤ 13 := by have h := lt_of_lt_of_eq k.isLt trips_eq; omega
  unfold k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  unfold loopSt
  iintro ⟨#Henv, HO, ⟨H0, H1, H2, H3⟩, ⟨Hg0, Hg1⟩, ⟨Hh0, Hh1, Hh2, Hh3⟩, Hx, Hw⟩
  iapply (load_x_wp m c (chunkR c (k.val + 1)) (chunkR_lt c _) (off3_eq c k)) $$ Hx; iintro Hx
  iapply (load_w0_wp m c) $$ Hw; iintro Hw
  iapply (load_x_wp m c (chunkL c (k.val + 1)) (chunkL_lt c _) (off4_eq c k)) $$ Hx; iintro Hx
  iapply (load_w1_wp m c) $$ Hw; iintro Hw
  -- the first stream to the right
  ihave Hq := (give_left 2 k.val c (tgt 0 c) rfl) $$ [Hh2 H2]
  · isplitl [Hh2]; · iexact Hh2
    iexact H2
  icases Hq with ⟨HF, Hh2, H2⟩
  iapply (hop_wp m 0 k.val c _ hk (dev7_eq c) rfl (off9_eq k) (arr_sem (X := 0) (b := 0) (off5_eq k)) (arr_sem (X := 0) (b := 1) (off8_eq1 k))
      (arr_sem (X := 0) (b := 0) (off8_eq1 k)) (arr_sem (X := 0) (b := 1) (off8_eq2 k)) (slotM_eq (X := 0) (off6_eq k)) (slotM_eq (X := 0) (off7_eq1 k))
      (slotM_eq (X := 0) (off7_eq1 k)) (slotM_eq (X := 0) (off7_eq2 k)) (fun v => k0_pay4 _ v) (fun v => rfl)
      (owe4 (k.val + 1) (k.val + 1) (k.val + 1) (k.val + 1) c) (owe4 (k.val + 1 + 1) (k.val + 1) (k.val + 1) (k.val + 1) c) (owe4_step0 c (by omega)) (owe4_above c (by omega) (by omega) (by omega) (by omega))) $$ [H0 HO Hg0 HF]
  · isplitr; · iexact Henv
    isplitl [H0]; · iexact H0
    isplitl [HO]; · iexact HO
    isplitl [Hg0]; · iexact Hg0
    iexact HF
  iintro ⟨HO, H0, Hs0, Hg2⟩
  -- the second
  ihave Hq := (give_left 3 k.val c (tgt 1 c) rfl) $$ [Hh3 H3]
  · isplitl [Hh3]; · iexact Hh3
    iexact H3
  icases Hq with ⟨HF, Hh3, H3⟩
  iapply (hop_wp m 1 k.val c _ hk (dev8_eq c) rfl (off9_eq k) (arr_sem (X := 1) (b := 0) (off5_eq k)) (arr_sem (X := 1) (b := 1) (off8_eq1 k))
      (arr_sem (X := 1) (b := 0) (off8_eq1 k)) (arr_sem (X := 1) (b := 1) (off8_eq2 k)) (slotM_eq (X := 1) (off6_eq k)) (slotM_eq (X := 1) (off7_eq1 k))
      (slotM_eq (X := 1) (off7_eq1 k)) (slotM_eq (X := 1) (off7_eq2 k)) (fun v => k0_pay5 _ v) (fun v => rfl)
      (owe4 (k.val + 1 + 1) (k.val + 1) (k.val + 1) (k.val + 1) c) (owe4 (k.val + 1 + 1) (k.val + 1 + 1) (k.val + 1) (k.val + 1) c) (owe4_step1 c (by omega)) (owe4_above c (by omega) (by omega) (by omega) (by omega))) $$ [H1 HO Hg1 HF]
  · isplitr; · iexact Henv
    isplitl [H1]; · iexact H1
    isplitl [HO]; · iexact HO
    isplitl [Hg1]; · iexact Hg1
    iexact HF
  iintro ⟨HO, H1, Hs1, Hg3⟩
  -- the first stream to the left
  ihave Hq := (give_right 0 k.val c (tgt 2 c) rfl) $$ [Hh0 Hs0 H0]
  · isplitl [Hh0]; · iexact Hh0
    isplitl [Hs0]; · iexact Hs0
    iexact H0
  icases Hq with ⟨HF, Hh0, H0⟩
  iapply (hop_wp m 2 k.val c _ hk (dev9_eq c) rfl (off9_eq k) (arr_sem (X := 2) (b := 0) (off5_eq k)) (arr_sem (X := 2) (b := 1) (off8_eq1 k))
      (arr_sem (X := 2) (b := 0) (off8_eq1 k)) (arr_sem (X := 2) (b := 1) (off8_eq2 k)) (slotM_eq (X := 2) (off6_eq k)) (slotM_eq (X := 2) (off7_eq1 k))
      (slotM_eq (X := 2) (off7_eq1 k)) (slotM_eq (X := 2) (off7_eq2 k)) (fun v => k0_pay6 _ v) (fun v => rfl)
      (owe4 (k.val + 1 + 1) (k.val + 1 + 1) (k.val + 1) (k.val + 1) c) (owe4 (k.val + 1 + 1) (k.val + 1 + 1) (k.val + 1 + 1) (k.val + 1) c) (owe4_step2 c (by omega)) (owe4_above c (by omega) (by omega) (by omega) (by omega))) $$ [H2 HO Hg2 HF]
  · isplitr; · iexact Henv
    isplitl [H2]; · iexact H2
    isplitl [HO]; · iexact HO
    isplitl [Hg2]; · iexact Hg2
    iexact HF
  iintro ⟨HO, H2, Hs2, Hg0⟩
  -- the second
  ihave Hq := (give_right 1 k.val c (tgt 3 c) rfl) $$ [Hh1 Hs1 H1]
  · isplitl [Hh1]; · iexact Hh1
    isplitl [Hs1]; · iexact Hs1
    iexact H1
  icases Hq with ⟨HF, Hh1, H1⟩
  iapply (hop_wp m 3 k.val c _ hk (dev10_eq c) rfl (off9_eq k) (arr_sem (X := 3) (b := 0) (off5_eq k)) (arr_sem (X := 3) (b := 1) (off8_eq1 k))
      (arr_sem (X := 3) (b := 0) (off8_eq1 k)) (arr_sem (X := 3) (b := 1) (off8_eq2 k)) (slotM_eq (X := 3) (off6_eq k)) (slotM_eq (X := 3) (off7_eq1 k))
      (slotM_eq (X := 3) (off7_eq1 k)) (slotM_eq (X := 3) (off7_eq2 k)) (fun v => k0_pay7 _ v) (fun v => rfl)
      (owe4 (k.val + 1 + 1) (k.val + 1 + 1) (k.val + 1 + 1) (k.val + 1) c) (owe4 (k.val + 1 + 1) (k.val + 1 + 1) (k.val + 1 + 1) (k.val + 1 + 1) c) (owe4_step3 c (by omega)) (owe4_above c (by omega) (by omega) (by omega) (by omega))) $$ [H3 HO Hg3 HF]
  · isplitr; · iexact Henv
    isplitl [H3]; · iexact H3
    isplitl [HO]; · iexact HO
    isplitl [Hg3]; · iexact Hg3
    iexact HF
  iintro ⟨HO, H3, Hs3, Hg1⟩
  ihave Hh2 := (home_left 2 k.val c) $$ [Hh2 Hs2]
  · isplitl [Hh2]; · iexact Hh2
    iexact Hs2
  ihave Hh3 := (home_left 3 k.val c) $$ [Hh3 Hs3]
  · isplitl [Hh3]; · iexact Hh3
    iexact Hs3
  rw [wp_ret]; imodintro
  isplitr; · iexact Henv
  isplitl [HO]; · iexact HO
  isplitl [H0 H1 H2 H3]
  · isplitl [H0]; · iexact H0
    isplitl [H1]; · iexact H1
    isplitl [H2]; · iexact H2
    iexact H3
  isplitl [Hg0 Hg1]
  · isplitl [Hg0]; · iexact Hg0
    iexact Hg1
  isplitl [Hh0 Hh1 Hh2 Hh3]
  · isplitl [Hh0]; · iexact Hh0
    isplitl [Hh1]; · iexact Hh1
    isplitl [Hh2]; · iexact Hh2
    iexact Hh3
  isplitl [Hx]; · iexact Hx
  iexact Hw

end Cert.RingProof

end
-- ==== Proof.Begin.lean ====
/-
Before the loop: the barrier with both neighbours, and every stream's first send.
-/
module

public import proofs.«01_k».proof.Proof.Loop

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- What device `c` holds of stream `X` before its first send. -/
def preSt (X : Fin 4) (c : Dev nD) : sProp 𝕄 :=
  iprop((bigSep (Finset.Ico 0 15) fun t => recvCred X t c) ∗ winS X 0 c ∗ winR X 0 c ∗ bigSep (Finset.Ico 0 15) fun t => payTok X t c)

/-- What it holds for the barrier: its own cell's place and credit, and what it signals its neighbours with. -/
def barSt (c : Dev nD) : sProp 𝕄 :=
  iprop(atPos ER (barCell c) 0 ∅ 0 ∗ cred (tallyAt (barCell c) 1 2)
    ∗ (dutyTok ER (barCell (prv c)) 0 true ∗ reached ER (barCell (prv c)) 0) ∗ (dutyTok ER (barCell (nxt c)) 0 false ∗ reached ER (barCell (nxt c)) 0))

theorem preSt_reached (X : Fin 4) (t : ℕ) (c : Dev nD) (h : t < 4) :
    (preSt X c : sProp 𝕄) ⊢ iprop(preSt X c ∗ reached ER (rCell X t c) (t / 4)) := by
  unfold preSt
  iintro ⟨H₁, H₂, Hw, H₃⟩
  ihave Hw := (winR_reached X 0 t c (Nat.zero_le _) (by omega)) $$ Hw
  icases Hw with ⟨Hw, Hr⟩
  isplitr [Hr]
  · isplitl [H₁]; · iexact H₁
    isplitl [H₂]; · iexact H₂
    isplitl [Hw]; · iexact Hw
    iexact H₃
  iexact Hr

/-- A free slot of the device's own, as the gift it makes. -/
theorem give_first (X : Fin 4) (t : ℕ) (c d : Dev nD) (h : t < 4) (hd : d = src X c) :
    iprop(slotAny X (t + 1) c ∗ preSt X c) ⊢ (iprop(gift X t d ∗ preSt X c) : sProp 𝕄) := by
  subst hd
  iintro ⟨Hs, Hst⟩
  ihave Hst := (preSt_reached X t c h) $$ Hst
  icases Hst with ⟨Hst, Hre⟩
  isplitl [Hs Hre]
  · iapply (gift_mk X t c)
    isplitl [Hs]; · iexact Hs
    iexact Hre
  iexact Hst

/-- The first send of a stream. -/
theorem begin_wp (X : Fin 4) (c n : Dev nD) (hn : n = tgt X c)
    {M : Memref sig .tc .vmem S4x512x1024 .bf16} (hM : M = bufM X) {off : Fin 3 → ℕ} {inb} (hoff : off = ![0 % 4, 0, 0])
    {sS sR : DmaSem sig} (hsS : sS = sSem X 0) (hsR : sR = rSem X 0)
    {vs vd : Memref sig .tc .vmem S512x1024 .bf16} (hvs : vs = slotM X 0) (hvd : vd = slotM X 1)
    {e₆ : M.view.LoadsAt (Rect.unit (s := S4x512x1024) off S1x512x1024.size inb).toLoadRect}
    {e₇ : (M.access (Rect.unit (s := S4x512x1024) off S1x512x1024.size inb)).Stores Finset.univ} {e₈}
    {hsc : (vd : Memref sig (Dev.tc n : Thread nD τ).2.kind .vmem S512x1024 .bf16).view.ref.isScScratch = false}
    {e₉ : vs.view.WordExact} {e₁₀ : vd.view.WordExact}
    {e₁₁ : DmaTarget.Typed .vmem (.dma sR) (.remote (Dev.tc n : Thread nD τ) vd (.dma sS) hsc)}
    (w : Vec F S1x512x1024 .bf16) (hw : w = begin_ X (prt m X c 0))
    (O₁ O₂ : CellTallies nD τ sig ℕ) (hO : O₁ = O₂ + tallyAt (rCell X 0 (tgt X c)) (2 + 0) N)
    {α : Type} {Ψ : α → sProp 𝕄} {k : PUnit → Prog (TpuEff nD τ sig (Elt F) Λ₀ .tc) α} :
    iprop(env m ∗ preSt X c ∗ slotAny X 0 c ∗ owesAny c O₁ ∗ gift X 0 c ∗ gift (opp X) (0 + ahead X) (tgt X c))
      ⊢ iprop(((owesAny c O₂ ∗ streamSt X 0 c) -∗ wp frame (wpE (defs₀ (F := F)) 𝒱₀ (c : Thread nD τ) none) Set.univ (k ⟨⟩) Ψ)
        -∗ wp frame (wpE (defs₀ (F := F)) 𝒱₀ (c : Thread nD τ) none) Set.univ
            (.op (.load M (Rect.unit (s := S4x512x1024) off S1x512x1024.size inb).toLoadRect e₆) fun _ =>
              .op (.store M (Rect.unit (s := S4x512x1024) off S1x512x1024.size inb) w Finset.univ e₇ e₈) fun _ =>
              .op (.enqueueDma vs (.remote (Dev.tc n : Thread nD τ) vd (.dma sS) hsc) (.dma sR) e₉ e₁₀ e₁₁) k) Ψ) := by
  have hcut : (preSt X c : sProp 𝕄) = iprop((bigSep (Finset.Ico 0 15) fun t => recvCred X t c)
      ∗ winS X 0 c ∗ winR X 0 c ∗ (payTok X 0 c ∗ bigSep (Finset.Ico (0 + 1) 15) fun t => payTok X t c)) := by
    unfold preSt
    rw [ico_sep (fun t => payTok X t c) (by omega : 0 < 15)]
  rw [hcut]
  iintro ⟨#Henv, ⟨HcRs, HwS, HwR, Htok, Htoks⟩, Hslot, HO, Hg, HF⟩ Hk
  iapply (load_any_wp X 0 c hM hoff) $$ Hslot
  iintro Hslot
  iapply (store_slot_wp X 0 c hM hoff w) $$ Hslot
  iintro Hslot
  rw [show w = val m X 0 c from hw]
  ihave Hw := (winS_reached X 0 0 c (le_refl _) (by omega)) $$ HwS
  icases Hw with ⟨HwS, #HrS⟩
  iapply (send_wp m X 0 c n (by omega) hn hsS hsR hvs hvd O₁ O₂ hO) $$ [Hslot Hg HF HO Htok]
  · isplitr; · iexact Henv
    isplitl [Hslot]; · iexact Hslot
    isplitl [Hg]; · iexact Hg
    isplitl [HF]; · iexact HF
    isplitl [HO]; · iexact HO
    isplitl [Htok]; · unfold payTok; iexact Htok
    iexact HrS
  iintro ⟨HO, HcS⟩
  iapply Hk
  isplitl [HO]; · iexact HO
  unfold streamSt
  isplitl [HcS]; · iexact HcS
  isplitl [HcRs]; · iexact HcRs
  isplitl [HwS]; · iexact HwS
  isplitl [HwR]; · iexact HwR
  iexact Htoks

/-- The barrier: device `c` hands each neighbour the gifts it owes it, and has those of both once it has waited. -/
theorem bar_wp (c d₁ d₂ : Dev nD) (h₁ : d₁ = prv c) (h₂ : d₂ = nxt c) {k₁ k₂ k₃ : ℕ} (hk₁ : k₁ = 1) (hk₂ : k₂ = 1) (hk₃ : k₃ = 2)
    (O : CellTallies nD τ sig ℕ) (hO : Above 2 O)
    {α : Type} {Ψ : α → sProp 𝕄} {k : PUnit → Prog (TpuEff nD τ sig (Elt F) Λ₀ .tc) α} :
    iprop(env m ∗ barSt c ∗ owesAny c (O + tallyAt (barCell (nxt c)) 1 1 + tallyAt (barCell (prv c)) 1 1) ∗ barPay (prv c) true ∗ barPay (nxt c) false)
      ⊢ iprop(((owesAny c O ∗ barPay c true ∗ barPay c false ∗ atPos ER (barCell c) 1 ∅ 0) -∗ wp frame (wpE (defs₀ (F := F)) 𝒱₀ (c : Thread nD τ) none) Set.univ (k ⟨⟩) Ψ)
        -∗ wp frame (wpE (defs₀ (F := F)) 𝒱₀ (c : Thread nD τ) none) Set.univ
            (.op (.semSignal (d₁ : Thread nD τ) barS k₁) fun _ => .op (.semSignal (d₂ : Thread nD τ) barS k₂) fun _ => .op (.semWait barS k₃) k) Ψ) := by
  subst h₁ h₂ hk₁ hk₂ hk₃
  have hmw : (env m : sProp 𝕄) ⊢ MayWait (c : Thread nD τ) (.reg barS) 1 O := env_mayWait m c _ 1 (by omega) O hO
  unfold barSt owesAny
  iintro ⟨#Henv, ⟨Hat, Hc, ⟨HtP, HrP⟩, HtN, HrN⟩, ⟨%W, HO⟩, HpP, HpN⟩ Hk
  ihave Hi := (env_bar m (prv c)) $$ Henv
  icases Hi with ⟨%κP, #HiP⟩
  ihave Hi := (env_bar m (nxt c)) $$ Henv
  icases Hi with ⟨%κN, #HiN⟩
  ihave Hi := (env_bar m c) $$ Henv
  icases Hi with ⟨%κ, #Hi⟩
  iapply (Rounds.wp_signal 𝒱₀ ER (ringRd m) (c : Thread nD τ) none (dst := (prv c : Thread nD τ)) (κ := κP) (r := 0)
      (d := true) (by rw [duties_bar]; exact Finset.mem_univ _) (amount_bar m (prv c) 0 true) 1 (O + tallyAt (barCell (nxt c)) 1 1) rfl)
    $$ [HO HtP HrP HpP]
  · isplitr; · iexact HiP
    isplitl [HO]; · iexact HO
    isplitl [HtP]; · iexact HtP
    isplitl [HpP]; · rw [payload_bar]; iexact HpP
    iexact HrP
  iintro HO
  iapply (Rounds.wp_signal 𝒱₀ ER (ringRd m) (c : Thread nD τ) none (dst := (nxt c : Thread nD τ)) (κ := κN) (r := 0)
      (d := false) (by rw [duties_bar]; exact Finset.mem_univ _) (amount_bar m (nxt c) 0 false) 1 O rfl)
    $$ [HO HtN HrN HpN]
  · isplitr; · iexact HiN
    isplitl [HO]; · iexact HO
    isplitl [HtN]; · iexact HtN
    isplitl [HpN]; · rw [payload_bar]; iexact HpN
    iexact HrN
  iintro HO
  iapply (Rounds.wp_wait_rest_token 𝒱₀ ER (ringRd m) (c : Thread nD τ) none (κ := κ)
      (wpE_semWait_eq 𝒱₀ (c : Thread nD τ) none Set.univ) (Set.mem_univ _) 1 (O := O) (W := W) (R := 0) (m := 0) (T := ∅)
      ((Nat.zero_add _).trans (expect_bar m c).symm)) $$ [Hc HO Hat]
  · isplitr; · iexact Hi
    isplitl [Hc]; · iexact Hc
    isplitl [HO]; · iexact HO
    isplitr; · iapply hmw; iexact Henv
    iexact Hat
  iintro ⟨HO, Hat, -, Hpay⟩
  ihave Hp := (Entails.of_eq (rest_bar m c)) $$ Hpay
  icases Hp with ⟨Hp₁, Hp₂⟩
  iapply Hk
  isplitl [HO]; · iexists _; iexact HO
  isplitl [Hp₁]; · iexact Hp₁
  isplitl [Hp₂]; · iexact Hp₂
  iexact Hat

end Cert.RingProof

end
-- ==== Proof.Final.lean ====
/-
After the loop: every stream's last wait, and the quarter of the result it ends in.
-/
module

public import proofs.«01_k».proof.Proof.Begin

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The result's columns -/

theorem out_inb (X : Fin 4) : ∀ a : Fin 2, (![0, 1024 * X.val] : Fin 2 → ℕ) a + S512x1024.size a ≤ S512x4096.size a := by
  intro a
  have := X.isLt
  match a with
  | 0 => show 0 + 512 ≤ 512; omega
  | 1 => show 1024 * X.val + 1024 ≤ 4096; omega

/-- The quarter of the result's columns stream `X` ends in. -/
def outRect (X : Fin 4) : Rect S512x4096 := Rect.unit (s := S512x4096) ![0, 1024 * X.val] S512x1024.size (out_inb X)

/-- The result buffer seen through it. -/
abbrev outV (X : Fin 4) := (Memref.whole cc0_stg2_0 : Memref sig .tc .vmem S512x4096 .f32).access (outRect X)

set_option backward.proofsInPublic true in
/-- Which quarter an index of the result lies in, and where in it. -/
def quarter (i : S512x4096.Idx) : Fin 4 := ⟨(i 1).val / 1024, by have h : (i 1).val < 4096 := (i 1).isLt; omega⟩
set_option backward.proofsInPublic true in
def within (i : S512x4096.Idx) : S512x1024.Idx := fun a => match a with
  | 0 => ⟨(i 0).val, (i 0).isLt⟩
  | 1 => ⟨(i 1).val % 1024, Nat.mod_lt _ (by decide)⟩

/-- Device `c`'s result. -/
def outAt (c : Dev nD) : (cc0_stg2_0 : Ref sig .tc).ty.Contents (Elt F) := fun i => res m (quarter i) c (within i)

/-- Writing a quarter, read at an index. -/
theorem write_quarter (X : Fin 4) (f : (cc0_stg2_0 : Ref sig .tc).ty.Contents (Elt F)) (w : FVec F S512x1024 .f32) (i : S512x4096.Idx) :
    (outV X).write (Elt F) f w Finset.univ i = if quarter i = X then w (within i) else f i := by
  by_cases h : quarter i = X
  · rw [if_pos h]
    have hi : (outV X).emb (within i) = i := by
      funext a
      apply Fin.ext
      have hX : X.val = (i 1).val / 1024 := by rw [← h]; rfl
      match a with
      | 0 => show 0 + 1 * (i 0).val = (i 0).val; omega
      | 1 => show 1024 * X.val + 1 * ((i 1).val % 1024) = (i 1).val; omega
    have hw := View.write_emb_of_mem (v := outV X) (Val := Elt F) f w (M := Finset.univ) (x := within i) (Finset.mem_univ _)
    rw [hi] at hw
    exact hw
  · rw [if_neg h]
    apply View.write_of_not_mem
    intro hm
    unfold View.setOn at hm
    rw [Finset.mem_map] at hm
    obtain ⟨y, -, hy⟩ := hm
    apply h
    have h2 : 1024 * X.val + 1 * (y 1).val = (i 1).val := congrArg (fun j : S512x4096.Idx => (j 1).val) hy
    have h3 : (y 1).val < 1024 := (y 1).isLt
    apply Fin.ext
    show (i 1).val / 1024 = X.val
    omega

/-- The four stores leave the result, whatever the buffer held. -/
theorem write_out (c : Dev nD) (f : (cc0_stg2_0 : Ref sig .tc).ty.Contents (Elt F)) :
    (outV 3).write (Elt F) ((outV 2).write (Elt F) ((outV 1).write (Elt F) ((outV 0).write (Elt F) f (res m 0 c) Finset.univ)
      (res m 1 c) Finset.univ) (res m 2 c) Finset.univ) (res m 3 c) Finset.univ = outAt m c := by
  funext i
  rw [write_quarter, write_quarter, write_quarter, write_quarter]
  show _ = res m (quarter i) c (within i)
  generalize quarter i = q
  match q with
  | 0 => rfl
  | 1 => rfl
  | 2 => rfl
  | 3 => rfl

def outPts (c : Dev nD) (f : (cc0_stg2_0 : Ref sig .tc).ty.Contents (Elt F)) : sProp 𝕄 := ((c : Thread nD τ).loc cc0_stg2_0) ↦{fullShare} f

/-! ## The last waits -/

/-- What device `c` holds of stream `X` at the end: nothing is under way. -/
def endSt (X : Fin 4) (c : Dev nD) : sProp 𝕄 := iprop(winS X 15 c ∗ winR X 15 c)

/-- A stream's end: its last send has left, its neighbour's has landed, and the device writes its quarter of the result. -/
theorem final_wp (X : Fin 4) (c : Dev nD)
    {M : Memref sig .tc .vmem S4x512x1024 .bf16} (hM : M = bufM X) {off : Fin 3 → ℕ} {inb} (hoff : off = ![15 % 4, 0, 0])
    {sem₁ sem₂ : DmaSem sig} (h₁ : sem₁ = sSem X 14) (h₂ : sem₂ = rSem X 14)
    {a₁ b₁ a₂ b₂ : Memref sig .tc .vmem S512x1024 .bf16} (hb₁ : b₁ = slotM X 14) (hb₂ : b₂ = slotM X 15)
    {e₁ : a₁.view.WordExact} {e₂ : b₁.view.WordExact} {e₃ : a₂.view.WordExact} {e₄ : b₂.view.WordExact}
    {e₅ : M.view.LoadsAt (Rect.unit (s := S4x512x1024) off S1x512x1024.size inb).toLoadRect}
    {off' : Fin 2 → ℕ} {inb'} (hoff' : off' = ![0, 1024 * X.val])
    {e₆ : (Memref.whole cc0_stg2_0 : Memref sig .tc .vmem S512x4096 .f32).view.LoadsAt (Rect.unit (s := S512x4096) off' S512x1024.size inb').toLoadRect}
    {e₇ : ((Memref.whole cc0_stg2_0 : Memref sig .tc .vmem S512x4096 .f32).access (Rect.unit (s := S512x4096) off' S512x1024.size inb')).Stores Finset.univ} {e₈}
    (pay : Vec F S1x512x1024 .bf16 → FVec F S512x1024 .f32) (hpay : ∀ v, pay v = final X (prt m X c 15) v)
    (f : (cc0_stg2_0 : Ref sig .tc).ty.Contents (Elt F))
    {α : Type} {Ψ : α → sProp 𝕄} {k : PUnit → Prog (TpuEff nD τ sig (Elt F) Λ₀ .tc) α} :
    iprop(env m ∗ streamSt X 14 c ∗ owesAny c 0 ∗ outPts c f)
      ⊢ iprop(((owesAny c 0 ∗ endSt X c ∗ slotAny X 14 c ∗ slotAny X 15 c ∗ outPts c ((outV X).write (Elt F) f (res m X c) Finset.univ))
          -∗ wp frame (wpE (defs₀ (F := F)) 𝒱₀ (c : Thread nD τ) none) Set.univ (k ⟨⟩) Ψ)
        -∗ wp frame (wpE (defs₀ (F := F)) 𝒱₀ (c : Thread nD τ) none) Set.univ
            (.op (.waitDma2 sem₁ a₁ b₁ e₁ e₂) fun _ => .op (.waitDma2 sem₂ a₂ b₂ e₃ e₄) fun _ =>
              .op (.load M (Rect.unit (s := S4x512x1024) off S1x512x1024.size inb).toLoadRect e₅) fun v =>
              .op (.load (Memref.whole cc0_stg2_0) (Rect.unit (s := S512x4096) off' S512x1024.size inb').toLoadRect e₆) fun _ =>
              .op (.store (Memref.whole cc0_stg2_0) (Rect.unit (s := S512x4096) off' S512x1024.size inb') (pay v) Finset.univ e₇ e₈) k) Ψ) := by
  subst hoff'
  have hcut : (streamSt X 14 c : sProp 𝕄) = iprop(cred (tallyAt (sCell X 14 c) 0 N) ∗ (recvCred X 14 c ∗ bigSep (Finset.Ico 15 15) fun t => recvCred X t c)
      ∗ winS X 14 c ∗ winR X 14 c ∗ bigSep (Finset.Ico 15 15) fun t => payTok X t c) := by
    unfold streamSt
    rw [ico_sep (fun t => recvCred X t c) (by omega : 14 < 15)]
  rw [hcut]
  iintro ⟨#Henv, ⟨HcS, ⟨HcR, -⟩, HwS, HwR, -⟩, HO, Hout⟩ Hk
  iapply (wait_send_wp m X 14 c (by omega) h₁ (by rw [hb₁]; exact credit_slotM X 14) 0 (Above.zero _)) $$ [HcS HO HwS]
  · isplitr; · iexact Henv
    isplitl [HcS]; · iexact HcS
    isplitl [HO]; · iexact HO
    iexact HwS
  iintro ⟨HO, HwS, Hsrc⟩
  iapply (wait_recv_wp m X 14 c (by omega) h₂ (by rw [hb₂]; exact credit_slotM X 15) 0 (Above.zero _)) $$ [HcR HO HwR]
  · isplitr; · iexact Henv
    isplitl [HcR]; · unfold recvCred; iexact HcR
    isplitl [HO]; · iexact HO
    iexact HwR
  iintro ⟨HO, HwR, Hslot, -⟩
  iapply (load_slot_wp X 15 c (val m X 14 (src X c)) hM hoff) $$ Hslot
  iintro Hslot
  ihave Hslot := (slotAt_any X 15 c _) $$ Hslot
  unfold outPts
  iapply (wp_load 𝒱₀ (c : Thread nD τ) none Set.univ (m := Memref.whole cc0_stg2_0) (Finset.subset_univ _)) $$ Hout
  iintro Hout
  iapply (wp_store 𝒱₀ (c : Thread nD τ) none Set.univ (m := Memref.whole cc0_stg2_0) (r := outRect X) (Mk := Finset.univ) (Finset.subset_univ _)) $$ Hout
  iintro Hout
  rw [show pay (val m X 14 (src X c)) = res m X c from hpay _]
  iapply Hk
  isplitl [HO]; · iexact HO
  isplitl [HwS HwR]
  · unfold endSt
    isplitl [HwS]; · iexact HwS
    iexact HwR
  isplitl [Hsrc]; · iexact Hsrc
  isplitl [Hslot]; · iexact Hslot
  iexact Hout

end Cert.RingProof

end
-- ==== Proof.Body.lean ====
/-
The whole kernel body on one device, from its semaphores, slots and staging buffers to the result in place.
-/
module

public import proofs.«01_k».proof.Proof.Final

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- The four slots of stream `X`'s buffer. -/
def slots4 (X : Fin 4) (c : Dev nD) : sProp 𝕄 := iprop(slotAny X 0 c ∗ slotAny X 1 c ∗ slotAny X 2 c ∗ slotAny X 3 c)

omit [FloatOps F] in
/-- After the last waits all four slots are home. -/
theorem home_end (X : Fin 4) (c : Dev nD) :
    iprop((bigSep (Finset.Ico 15 17) fun t => slotAny X (t + 1) c) ∗ slotAny X 14 c ∗ slotAny X 15 c) ⊢ (slots4 X c : sProp 𝕄) := by
  rw [ico_sep (fun t => (slotAny X (t + 1) c : sProp 𝕄)) (by omega : 15 < 17), ico_sep (fun t => (slotAny X (t + 1) c : sProp 𝕄)) (by omega : 15 + 1 < 17)]
  unfold slots4
  rw [slotAny_mod X c (show (15 + 1) % 4 = 0 % 4 by rfl), slotAny_mod X c (show (15 + 1 + 1) % 4 = 1 % 4 by rfl),
    slotAny_mod X c (show 14 % 4 = 2 % 4 by rfl), slotAny_mod X c (show 15 % 4 = 3 % 4 by rfl)]
  iintro ⟨⟨H₀, H₁, -⟩, H₂, H₃⟩
  isplitl [H₀]; · iexact H₀
  isplitl [H₁]; · iexact H₁
  isplitl [H₂]; · iexact H₂
  iexact H₃

/-- The gift that travels left with a first send, once the right-going stream has made its own. -/
theorem give_left2 (X : Fin 4) (c : Dev nD) :
    iprop(slotAny X 3 c ∗ streamSt X 0 c) ⊢ (iprop(gift X 2 (src X c) ∗ streamSt X 0 c) : sProp 𝕄) := by
  iintro ⟨Hs, Hst⟩
  ihave Hst := (streamSt_reached X 0 2 c (by omega) (by omega)) $$ Hst
  icases Hst with ⟨Hst, Hre⟩
  isplitl [Hs Hre]
  · iapply (gift_mk X 2 c)
    isplitl [Hs]; · iexact Hs
    iexact Hre
  iexact Hst

omit [FloatOps F] in
theorem barPay_true (d : Dev nD) : (barPay d true : sProp 𝕄) = iprop(gift 0 0 d ∗ gift 0 1 d ∗ gift 1 0 d ∗ gift 1 1 d) := rfl
omit [FloatOps F] in
theorem barPay_false (d : Dev nD) : (barPay d false : sProp 𝕄) = iprop(gift 2 0 d ∗ gift 3 0 d) := rfl
omit [FloatOps F] in
theorem bar_true (d : Dev nD) : iprop(gift 0 0 d ∗ gift 0 1 d ∗ gift 1 0 d ∗ gift 1 1 d) ⊢ (barPay d true : sProp 𝕄) := by rw [barPay_true]
omit [FloatOps F] in
theorem bar_false (d : Dev nD) : iprop(gift 2 0 d ∗ gift 3 0 d) ⊢ (barPay d false : sProp 𝕄) := by rw [barPay_false]

/-- What device `c` owes at the start: all its sends, and its two signals. -/
def O₀ (c : Dev nD) : CellTallies nD τ sig ℕ := owe4 0 0 0 0 c + tallyAt (barCell (nxt c)) 1 1 + tallyAt (barCell (prv c)) 1 1

theorem owe4_end (c : Dev nD) : owe4 15 15 15 15 c = 0 := by
  unfold owe4
  rw [oweS_done 0 15 c (le_refl _), oweS_done 1 15 c (le_refl _), oweS_done 2 15 c (le_refl _), oweS_done 3 15 c (le_refl _)]
  simp only [add_zero]

/-- Before the body, -/
def bodyPre (c : Dev nD) : sProp 𝕄 :=
  iprop(env m ∗ (preSt 0 c ∗ preSt 1 c ∗ preSt 2 c ∗ preSt 3 c) ∗ (slots4 0 c ∗ slots4 1 c ∗ slots4 2 c ∗ slots4 3 c) ∗ barSt c)
/-- and after it. -/
def bodyPost (c : Dev nD) : sProp 𝕄 :=
  iprop(env m ∗ (endSt 0 c ∗ endSt 1 c ∗ endSt 2 c ∗ endSt 3 c) ∗ (slots4 0 c ∗ slots4 1 c ∗ slots4 2 c ∗ slots4 3 c) ∗ atPos ER (barCell c) 1 ∅ 0)

/-- The loop's state at its start: only the left-going streams have a slot at home. -/
theorem loop_start (c : Dev nD) :
    iprop(env m ∗ owesAny c (owe4 1 1 1 1 c) ∗ (streamSt 0 0 c ∗ streamSt 1 0 c ∗ streamSt 2 0 c ∗ streamSt 3 0 c)
      ∗ (gift 0 1 c ∗ gift 1 1 c) ∗ slotAny 2 3 c ∗ slotAny 3 3 c ∗ xPts m c ∗ wPts m c) ⊢ (loopSt m 0 c : sProp 𝕄) := by
  have hR (X : Fin 4) : (homeR X 0 c : sProp 𝕄) = iprop(emp) := by
    unfold homeR; rw [Finset.Ico_eq_empty (by omega), bigSep_empty]; rfl
  have hL (X : Fin 4) : (slotAny X 3 c : sProp 𝕄) ⊢ homeL X 0 c := by
    unfold homeL
    rw [show min (0 + 2) 15 = 2 by rfl, ico_sep (fun t => (slotAny X (t + 1) c : sProp 𝕄)) (by omega : 2 < 0 + 3), Finset.Ico_eq_empty (by omega), bigSep_empty]
    iintro H
    isplitl [H]; · iexact H
    iempintro
  unfold loopSt
  rw [hR, hR]
  iintro ⟨#Henv, HO, Hs, Hg, S2, S3, Hx, Hw⟩
  isplitr; · iexact Henv
  isplitl [HO]; · iexact HO
  isplitl [Hs]; · iexact Hs
  isplitl [Hg]; · iexact Hg
  isplitl [S2 S3]
  · isplitr; · iempintro
    isplitr; · iempintro
    isplitl [S2]; · iapply (hL 2); iexact S2
    iapply (hL 3); iexact S3
  isplitl [Hx]; · iexact Hx
  iexact Hw

/-- And at its end: nothing more is owed. -/
theorem loop_end (c : Dev nD) : (loopSt m (Scf.trips k0_t1_loop.lb k0_t1_loop.ub k0_t1_loop.st) c : sProp 𝕄) ⊢
    iprop(owesAny c 0 ∗ (streamSt 0 14 c ∗ streamSt 1 14 c ∗ streamSt 2 14 c ∗ streamSt 3 14 c)
      ∗ ((bigSep (Finset.Ico 15 17) fun t => slotAny 0 (t + 1) c) ∗ (bigSep (Finset.Ico 15 17) fun t => slotAny 1 (t + 1) c)
        ∗ (bigSep (Finset.Ico 15 17) fun t => slotAny 2 (t + 1) c) ∗ (bigSep (Finset.Ico 15 17) fun t => slotAny 3 (t + 1) c))
      ∗ xPts m c ∗ wPts m c) := by
  rw [show Scf.trips k0_t1_loop.lb k0_t1_loop.ub k0_t1_loop.st = 14 from trips_eq]
  unfold loopSt homeR homeL
  rw [owe4_end]
  iintro ⟨-, HO, Hs, -, Hh, Hx, Hw⟩
  isplitl [HO]; · iexact HO
  isplitl [Hs]; · iexact Hs
  isplitl [Hh]; · iexact Hh
  isplitl [Hx]; · iexact Hx
  iexact Hw

set_option maxHeartbeats 8000000 in
set_option maxRecDepth 20000 in
theorem body_wp (c : Dev nD) (f : (cc0_stg2_0 : Ref sig .tc).ty.Contents (Elt F)) :
    iprop(bodyPre m c ∗ owesAny c (O₀ c) ∗ xPts m c ∗ wPts m c ∗ outPts c f)
      ⊢ wp frame (wpE (defs₀ (F := F)) 𝒱₀ (c : Thread nD τ) none) Set.univ
        (cc0_body (F := F) (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7
        cc0_scratch8 cc0_scratch9 cc0_scratch10 cc0_scratch11)
        (fun _ => iprop(bodyPost m c ∗ owesAny c 0 ∗ xPts m c ∗ wPts m c ∗ outPts c (outAt m c))) := by
  rw [cc0_body_eq_skeleton]
  unfold cc0_body_skel
  simp only [k0_part6_eq_skeleton, k0_part7_eq_skeleton, k0_part8_eq_skeleton, k0_part9_eq_skeleton, k0_part10_eq_skeleton,
    k0_part11_eq_skeleton, k0_part12_eq_skeleton]
  unfold k0_part6_skel k0_part7_skel k0_part8_skel k0_part9_skel k0_part10_skel k0_part11_skel k0_part12_skel
  simp only [semSignalWord, semWaitWord, Prog.lift, Prog.bind_op, Prog.bind_ret, Prog.pure_eq_ret]
  simp only [wp_deviceId, Prog.bind_assoc, Prog.bind_ret]
  unfold bodyPre O₀ slots4
  iintro ⟨⟨#Henv, ⟨H0, H1, H2, H3⟩, ⟨⟨S00, S01, S02, S03⟩, ⟨S10, S11, S12, S13⟩, ⟨S20, S21, S22, S23⟩, ⟨S30, S31, S32, S33⟩⟩, Hbar⟩, HO, Hx, Hw, Hout⟩
  -- the gifts the barrier carries
  ihave Hq := (give_first 0 0 c (prv c) (by omega) rfl) $$ [S01 H0]
  · isplitl [S01]; · iexact S01
    iexact H0
  icases Hq with ⟨G00, H0⟩
  ihave Hq := (give_first 0 1 c (prv c) (by omega) rfl) $$ [S02 H0]
  · isplitl [S02]; · iexact S02
    iexact H0
  icases Hq with ⟨G01, H0⟩
  ihave Hq := (give_first 1 0 c (prv c) (by omega) rfl) $$ [S11 H1]
  · isplitl [S11]; · iexact S11
    iexact H1
  icases Hq with ⟨G10, H1⟩
  ihave Hq := (give_first 1 1 c (prv c) (by omega) rfl) $$ [S12 H1]
  · isplitl [S12]; · iexact S12
    iexact H1
  icases Hq with ⟨G11, H1⟩
  ihave Hq := (give_first 2 0 c (nxt c) (by omega) rfl) $$ [S21 H2]
  · isplitl [S21]; · iexact S21
    iexact H2
  icases Hq with ⟨G20, H2⟩
  ihave Hq := (give_first 3 0 c (nxt c) (by omega) rfl) $$ [S31 H3]
  · isplitl [S31]; · iexact S31
    iexact H3
  icases Hq with ⟨G30, H3⟩
  iapply (bar_wp m c _ _ (dev1_eq c) (dev2_eq c) rfl rfl rfl (owe4 0 0 0 0 c) (owe4_above c (by omega) (by omega) (by omega) (by omega)))
    $$ [Hbar HO G00 G01 G10 G11 G20 G30]
  · isplitr; · iexact Henv
    isplitl [Hbar]; · iexact Hbar
    isplitl [HO]; · iexact HO
    isplitl [G00 G01 G10 G11]
    · iapply (bar_true (F := F) (prv c))
      isplitl [G00]; · iexact G00
      isplitl [G01]; · iexact G01
      isplitl [G10]; · iexact G10
      iexact G11
    iapply (bar_false (F := F) (nxt c))
    isplitl [G20]; · iexact G20
    iexact G30
  rw [barPay_true, barPay_false]
  iintro ⟨HO, ⟨G00, G01, G10, G11⟩, ⟨G20, G30⟩, Hbar⟩
  iapply (load_x_wp m c (chunkR c 0) (chunkR_lt c _) (off1_eq c)) $$ Hx; iintro Hx
  iapply (load_w0_wp m c) $$ Hw; iintro Hw
  iapply (load_x_wp m c (chunkL c 0) (chunkL_lt c _) (off2_eq c)) $$ Hx; iintro Hx
  iapply (load_w1_wp m c) $$ Hw; iintro Hw
  -- the first sends
  ihave Hq := (give_first 2 1 c (tgt 0 c) (by omega) rfl) $$ [S22 H2]
  · isplitl [S22]; · iexact S22
    iexact H2
  icases Hq with ⟨HF, H2⟩
  iapply (begin_wp m 0 c _ (dev3_eq c) rfl rfl (arr_sem (X := 0) (b := 0) rfl) (arr_sem (X := 0) (b := 1) rfl) (slotM_eq (X := 0) rfl) (slotM_eq (X := 0) rfl)
      _ rfl (owe4 0 0 0 0 c) (owe4 1 0 0 0 c) (owe4_step0 c (by omega))) $$ [H0 S00 HO G00 HF]
  · isplitr; · iexact Henv
    isplitl [H0]; · iexact H0
    isplitl [S00]; · iexact S00
    isplitl [HO]; · iexact HO
    isplitl [G00]; · iexact G00
    iexact HF
  iintro ⟨HO, H0⟩
  ihave Hq := (give_first 3 1 c (tgt 1 c) (by omega) rfl) $$ [S32 H3]
  · isplitl [S32]; · iexact S32
    iexact H3
  icases Hq with ⟨HF, H3⟩
  iapply (begin_wp m 1 c _ (dev4_eq c) rfl rfl (arr_sem (X := 1) (b := 0) rfl) (arr_sem (X := 1) (b := 1) rfl) (slotM_eq (X := 1) rfl) (slotM_eq (X := 1) rfl)
      _ rfl (owe4 1 0 0 0 c) (owe4 1 1 0 0 c) (owe4_step1 c (by omega))) $$ [H1 S10 HO G10 HF]
  · isplitr; · iexact Henv
    isplitl [H1]; · iexact H1
    isplitl [S10]; · iexact S10
    isplitl [HO]; · iexact HO
    isplitl [G10]; · iexact G10
    iexact HF
  iintro ⟨HO, H1⟩
  ihave Hq := (give_left2 0 c) $$ [S03 H0]
  · isplitl [S03]; · iexact S03
    iexact H0
  icases Hq with ⟨HF, H0⟩
  iapply (begin_wp m 2 c _ (dev5_eq c) rfl rfl (arr_sem (X := 2) (b := 0) rfl) (arr_sem (X := 2) (b := 1) rfl) (slotM_eq (X := 2) rfl) (slotM_eq (X := 2) rfl)
      _ rfl (owe4 1 1 0 0 c) (owe4 1 1 1 0 c) (owe4_step2 c (by omega))) $$ [H2 S20 HO G20 HF]
  · isplitr; · iexact Henv
    isplitl [H2]; · iexact H2
    isplitl [S20]; · iexact S20
    isplitl [HO]; · iexact HO
    isplitl [G20]; · iexact G20
    iexact HF
  iintro ⟨HO, H2⟩
  ihave Hq := (give_left2 1 c) $$ [S13 H1]
  · isplitl [S13]; · iexact S13
    iexact H1
  icases Hq with ⟨HF, H1⟩
  iapply (begin_wp m 3 c _ (dev6_eq c) rfl rfl (arr_sem (X := 3) (b := 0) rfl) (arr_sem (X := 3) (b := 1) rfl) (slotM_eq (X := 3) rfl) (slotM_eq (X := 3) rfl)
      _ rfl (owe4 1 1 1 0 c) (owe4 1 1 1 1 c) (owe4_step3 c (by omega))) $$ [H3 S30 HO G30 HF]
  · isplitr; · iexact Henv
    isplitl [H3]; · iexact H3
    isplitl [S30]; · iexact S30
    isplitl [HO]; · iexact HO
    isplitl [G30]; · iexact G30
    iexact HF
  iintro ⟨HO, H3⟩
  -- the loop
  iapply (Scf.wp_for_bind _ _ _ _ _ _ k0_t1_ok _ _ (fun k _ => loopSt m k c) (fun k acc => trip_wp m c _ _ _ _ _ k acc))
    $$ [H0 H1 H2 H3 HO G01 G11 S23 S33 Hx Hw]
  · iapply (loop_start m c)
    isplitr; · iexact Henv
    isplitl [HO]; · iexact HO
    isplitl [H0 H1 H2 H3]
    · isplitl [H0]; · iexact H0
      isplitl [H1]; · iexact H1
      isplitl [H2]; · iexact H2
      iexact H3
    isplitl [G01 G11]
    · isplitl [G01]; · iexact G01
      iexact G11
    isplitl [S23]; · iexact S23
    isplitl [S33]; · iexact S33
    isplitl [Hx]; · iexact Hx
    iexact Hw
  iintro %acc HL
  ihave HL := (loop_end m c) $$ HL
  icases HL with ⟨HO, ⟨H0, H1, H2, H3⟩, ⟨Hh0, Hh1, Hh2, Hh3⟩, Hx, Hw⟩
  iapply (load_x_wp m c (chunkR c 15) (chunkR_lt c _) (off10_eqR c)) $$ Hx; iintro Hx
  iapply (load_w0_wp m c) $$ Hw; iintro Hw
  iapply (load_x_wp m c (chunkL c 15) (chunkL_lt c _) (off10_eqL c)) $$ Hx; iintro Hx
  iapply (load_w1_wp m c) $$ Hw; iintro Hw
  -- the last waits
  iapply (final_wp m 0 c rfl rfl (arr_sem (X := 0) (b := 0) (s := 14) rfl) (arr_sem (X := 0) (b := 1) (s := 15) rfl)
      (slotM_eq (X := 0) (s := 14) rfl) (slotM_eq (X := 0) (s := 15) rfl) rfl (fun v => k0_pay18 _ v) (fun v => rfl) _) $$ [H0 HO Hout]
  · isplitr; · iexact Henv
    isplitl [H0]; · iexact H0
    isplitl [HO]; · iexact HO
    iexact Hout
  iintro ⟨HO, H0, Sa, Sb, Hout⟩
  ihave Hh0 := (home_end (F := F) 0 c) $$ [Hh0 Sa Sb]
  · isplitl [Hh0]; · iexact Hh0
    isplitl [Sa]; · iexact Sa
    iexact Sb
  iapply (final_wp m 1 c rfl rfl (arr_sem (X := 1) (b := 0) (s := 14) rfl) (arr_sem (X := 1) (b := 1) (s := 15) rfl)
      (slotM_eq (X := 1) (s := 14) rfl) (slotM_eq (X := 1) (s := 15) rfl) rfl (fun v => k0_pay20 (k0_pay19 _ v)) (fun v => rfl) _) $$ [H1 HO Hout]
  · isplitr; · iexact Henv
    isplitl [H1]; · iexact H1
    isplitl [HO]; · iexact HO
    iexact Hout
  iintro ⟨HO, H1, Sa, Sb, Hout⟩
  ihave Hh1 := (home_end (F := F) 1 c) $$ [Hh1 Sa Sb]
  · isplitl [Hh1]; · iexact Hh1
    isplitl [Sa]; · iexact Sa
    iexact Sb
  iapply (final_wp m 2 c rfl rfl (arr_sem (X := 2) (b := 0) (s := 14) rfl) (arr_sem (X := 2) (b := 1) (s := 15) rfl)
      (slotM_eq (X := 2) (s := 14) rfl) (slotM_eq (X := 2) (s := 15) rfl) rfl (fun v => k0_pay21 _ v) (fun v => rfl) _) $$ [H2 HO Hout]
  · isplitr; · iexact Henv
    isplitl [H2]; · iexact H2
    isplitl [HO]; · iexact HO
    iexact Hout
  iintro ⟨HO, H2, Sa, Sb, Hout⟩
  ihave Hh2 := (home_end (F := F) 2 c) $$ [Hh2 Sa Sb]
  · isplitl [Hh2]; · iexact Hh2
    isplitl [Sa]; · iexact Sa
    iexact Sb
  iapply (final_wp m 3 c rfl rfl (arr_sem (X := 3) (b := 0) (s := 14) rfl) (arr_sem (X := 3) (b := 1) (s := 15) rfl)
      (slotM_eq (X := 3) (s := 14) rfl) (slotM_eq (X := 3) (s := 15) rfl) rfl (fun v => k0_pay1 _ v) (fun v => rfl) _) $$ [H3 HO Hout]
  · isplitr; · iexact Henv
    isplitl [H3]; · iexact H3
    isplitl [HO]; · iexact HO
    iexact Hout
  iintro ⟨HO, H3, Sa, Sb, Hout⟩
  ihave Hh3 := (home_end (F := F) 3 c) $$ [Hh3 Sa Sb]
  · isplitl [Hh3]; · iexact Hh3
    isplitl [Sa]; · iexact Sa
    iexact Sb
  rw [write_out, wp_ret]; imodintro
  unfold bodyPost
  isplitl [H0 H1 H2 H3 Hh0 Hh1 Hh2 Hh3 Hbar]
  · isplitr; · iexact Henv
    isplitl [H0 H1 H2 H3]
    · isplitl [H0]; · iexact H0
      isplitl [H1]; · iexact H1
      isplitl [H2]; · iexact H2
      iexact H3
    isplitl [Hh0 Hh1 Hh2 Hh3]
    · isplitl [Hh0]; · iexact Hh0
      isplitl [Hh1]; · iexact Hh1
      isplitl [Hh2]; · iexact Hh2
      iexact Hh3
    iexact Hbar
  isplitl [HO]; · iexact HO
  isplitl [Hx]; · iexact Hx
  isplitl [Hw]; · iexact Hw
  iexact Hout

end Cert.RingProof

end
-- ==== Proof.Slots.lean ====
/-
What the launch deals out, cut the way the ring uses it: a stream's buffer into its slots, a device's thirty-three
semaphores into the barrier's and each stream's.
-/
module

public import proofs.«01_k».proof.Proof.Body
public import Idealize.ShloMosaic.Lib.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Buffers and slots -/

theorem mem_slot (s : ℕ) (i : S4x512x1024.Idx) : i ∈ (slotRect s).set ↔ (i 0).val = s % 4 := by
  unfold slotRect
  rw [Rect.mem_set_unit]
  constructor
  · intro h
    have h0 := h 0
    have h1 : s % 4 ≤ (i 0).val ∧ (i 0).val < s % 4 + 1 := h0
    omega
  · intro h a
    match a with
    | 0 => show s % 4 ≤ (i 0).val ∧ (i 0).val < s % 4 + 1; omega
    | 1 => show 0 ≤ (i 1).val ∧ (i 1).val < 0 + 512; have : (i 1).val < 512 := (i 1).isLt; omega
    | 2 => show 0 ≤ (i 2).val ∧ (i 2).val < 0 + 1024; have : (i 2).val < 1024 := (i 2).isLt; omega

theorem slot_disjoint (b b' : Fin 4) (h : b ≠ b') : Disjoint (slotRect b.val).set (slotRect b'.val).set := by
  rw [Finset.disjoint_left]
  intro i hi hi'
  rw [mem_slot] at hi hi'
  apply h
  apply Fin.ext
  have := b.isLt; have := b'.isLt
  omega

theorem slot_cover : (Finset.univ : Finset (Fin 4)).biUnion (fun b => (slotRect b.val).set) = Finset.univ := by
  ext i
  simp only [Finset.mem_biUnion, Finset.mem_univ, true_and, iff_true]
  have hi : (i 0).val < 4 := (i 0).isLt
  exact ⟨⟨(i 0).val, hi⟩, (mem_slot _ i).mpr (Nat.mod_eq_of_lt hi).symm⟩

/-- Stream `X`'s buffer whole, at whatever contents. -/
def bufAny (X : Fin 4) (c : Dev nD) : sProp 𝕄 :=
  iprop(∃ f : Buf (Elt F) ((c : Thread nD τ).loc (bufR X)), ((c : Thread nD τ).loc (bufR X)) ↦{fullShare} f)

omit [FloatOps F] in
theorem fin4_sep (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem slot_set_0 (s : ℕ) : (slotM 0 s).view.set = (slotRect s).set := (set_slotM 0 s).trans (View.set_slice_whole _ _)
omit [FloatOps F] in
theorem buf_cut_0 (c : Dev nD) : (bufAny 0 c : sProp 𝕄) ⊢ slots4 0 c := by
  unfold bufAny slots4 slotAny slotPts
  iintro ⟨%f, H⟩
  ihave H := (Entails.of_eq ((Ring.pointsTo_blocks (ℓ := (c : Thread nD τ).loc cc0_scratch0) (fun b : Fin 4 => (slotRect b.val).set) slot_disjoint slot_cover f).trans (fin4_sep _))) $$ H
  icases H with ⟨H0, H1, H2, H3⟩
  rw [slot_set_0, slot_set_0, slot_set_0, slot_set_0]
  isplitl [H0]; · iexists f; iexact H0
  isplitl [H1]; · iexists f; iexact H1
  isplitl [H2]; · iexists f; iexact H2
  iexists f; iexact H3
omit [FloatOps F] in
theorem buf_join_0 (c : Dev nD) : (slots4 0 c : sProp 𝕄) ⊢ bufAny 0 c := by
  unfold bufAny slots4 slotAny slotPts
  rw [slot_set_0, slot_set_0, slot_set_0, slot_set_0]
  iintro ⟨⟨%f, H0⟩, H1, H2, H3⟩
  iapply (Ring.pointsTo_blocks_join_exists (ℓ := (c : Thread nD τ).loc cc0_scratch0) (fun b : Fin 4 => (slotRect b.val).set) slot_disjoint slot_cover f)
  iapply (Entails.of_eq (fin4_sep (F := F) _).symm)
  isplitl [H0]; · iexists f; iexact H0
  isplitl [H1]; · iexact H1
  isplitl [H2]; · iexact H2
  iexact H3

omit [FloatOps F] in
theorem slot_set_1 (s : ℕ) : (slotM 1 s).view.set = (slotRect s).set := (set_slotM 1 s).trans (View.set_slice_whole _ _)
omit [FloatOps F] in
theorem buf_cut_1 (c : Dev nD) : (bufAny 1 c : sProp 𝕄) ⊢ slots4 1 c := by
  unfold bufAny slots4 slotAny slotPts
  iintro ⟨%f, H⟩
  ihave H := (Entails.of_eq ((Ring.pointsTo_blocks (ℓ := (c : Thread nD τ).loc cc0_scratch1) (fun b : Fin 4 => (slotRect b.val).set) slot_disjoint slot_cover f).trans (fin4_sep _))) $$ H
  icases H with ⟨H0, H1, H2, H3⟩
  rw [slot_set_1, slot_set_1, slot_set_1, slot_set_1]
  isplitl [H0]; · iexists f; iexact H0
  isplitl [H1]; · iexists f; iexact H1
  isplitl [H2]; · iexists f; iexact H2
  iexists f; iexact H3
omit [FloatOps F] in
theorem buf_join_1 (c : Dev nD) : (slots4 1 c : sProp 𝕄) ⊢ bufAny 1 c := by
  unfold bufAny slots4 slotAny slotPts
  rw [slot_set_1, slot_set_1, slot_set_1, slot_set_1]
  iintro ⟨⟨%f, H0⟩, H1, H2, H3⟩
  iapply (Ring.pointsTo_blocks_join_exists (ℓ := (c : Thread nD τ).loc cc0_scratch1) (fun b : Fin 4 => (slotRect b.val).set) slot_disjoint slot_cover f)
  iapply (Entails.of_eq (fin4_sep (F := F) _).symm)
  isplitl [H0]; · iexists f; iexact H0
  isplitl [H1]; · iexact H1
  isplitl [H2]; · iexact H2
  iexact H3

omit [FloatOps F] in
theorem slot_set_2 (s : ℕ) : (slotM 2 s).view.set = (slotRect s).set := (set_slotM 2 s).trans (View.set_slice_whole _ _)
omit [FloatOps F] in
theorem buf_cut_2 (c : Dev nD) : (bufAny 2 c : sProp 𝕄) ⊢ slots4 2 c := by
  unfold bufAny slots4 slotAny slotPts
  iintro ⟨%f, H⟩
  ihave H := (Entails.of_eq ((Ring.pointsTo_blocks (ℓ := (c : Thread nD τ).loc cc0_scratch2) (fun b : Fin 4 => (slotRect b.val).set) slot_disjoint slot_cover f).trans (fin4_sep _))) $$ H
  icases H with ⟨H0, H1, H2, H3⟩
  rw [slot_set_2, slot_set_2, slot_set_2, slot_set_2]
  isplitl [H0]; · iexists f; iexact H0
  isplitl [H1]; · iexists f; iexact H1
  isplitl [H2]; · iexists f; iexact H2
  iexists f; iexact H3
omit [FloatOps F] in
theorem buf_join_2 (c : Dev nD) : (slots4 2 c : sProp 𝕄) ⊢ bufAny 2 c := by
  unfold bufAny slots4 slotAny slotPts
  rw [slot_set_2, slot_set_2, slot_set_2, slot_set_2]
  iintro ⟨⟨%f, H0⟩, H1, H2, H3⟩
  iapply (Ring.pointsTo_blocks_join_exists (ℓ := (c : Thread nD τ).loc cc0_scratch2) (fun b : Fin 4 => (slotRect b.val).set) slot_disjoint slot_cover f)
  iapply (Entails.of_eq (fin4_sep (F := F) _).symm)
  isplitl [H0]; · iexists f; iexact H0
  isplitl [H1]; · iexact H1
  isplitl [H2]; · iexact H2
  iexact H3

omit [FloatOps F] in
theorem slot_set_3 (s : ℕ) : (slotM 3 s).view.set = (slotRect s).set := (set_slotM 3 s).trans (View.set_slice_whole _ _)
omit [FloatOps F] in
theorem buf_cut_3 (c : Dev nD) : (bufAny 3 c : sProp 𝕄) ⊢ slots4 3 c := by
  unfold bufAny slots4 slotAny slotPts
  iintro ⟨%f, H⟩
  ihave H := (Entails.of_eq ((Ring.pointsTo_blocks (ℓ := (c : Thread nD τ).loc cc0_scratch3) (fun b : Fin 4 => (slotRect b.val).set) slot_disjoint slot_cover f).trans (fin4_sep _))) $$ H
  icases H with ⟨H0, H1, H2, H3⟩
  rw [slot_set_3, slot_set_3, slot_set_3, slot_set_3]
  isplitl [H0]; · iexists f; iexact H0
  isplitl [H1]; · iexists f; iexact H1
  isplitl [H2]; · iexists f; iexact H2
  iexists f; iexact H3
omit [FloatOps F] in
theorem buf_join_3 (c : Dev nD) : (slots4 3 c : sProp 𝕄) ⊢ bufAny 3 c := by
  unfold bufAny slots4 slotAny slotPts
  rw [slot_set_3, slot_set_3, slot_set_3, slot_set_3]
  iintro ⟨⟨%f, H0⟩, H1, H2, H3⟩
  iapply (Ring.pointsTo_blocks_join_exists (ℓ := (c : Thread nD τ).loc cc0_scratch3) (fun b : Fin 4 => (slotRect b.val).set) slot_disjoint slot_cover f)
  iapply (Entails.of_eq (fin4_sep (F := F) _).symm)
  isplitl [H0]; · iexists f; iexact H0
  isplitl [H1]; · iexact H1
  isplitl [H2]; · iexact H2
  iexact H3

/-! ## Semaphores -/

/-- The kernel's own thirty-two semaphores, in order. -/
def osem (k : Fin 32) : SemLoc sig := .dma ⟨k.val + 3, by have := k.isLt; show _ < 35; omega⟩

theorem csem_succ (k : Fin 32) : csem k.succ = osem k := by
  unfold csem osem; rw [if_neg (by show ¬(k.val + 1 = 0); omega)]
  congr 1

omit [FloatOps F] in
theorem cells_own (Φ : Fin 33 → sProp 𝕄) : bigSep Finset.univ Φ = iprop(Φ 0 ∗ bigSep Finset.univ fun k : Fin 32 => Φ k.succ) := by
  rw [bigSep_erase (Finset.mem_univ (0 : Fin 33)),
    show (Finset.univ : Finset (Fin 33)).erase 0 = (Finset.univ : Finset (Fin 32)).map (Fin.succEmb 32) by decide, BI.bigSep_map]
  rfl

/-- An own semaphore's number, from its stream, its array and its place there. -/
def ownIx : Fin 4 × Fin 2 × Fin 4 ≃ Fin 32 where
  toFun p := ⟨8 * p.1.val + 4 * p.2.1.val + p.2.2.val, by have := p.1.isLt; have := p.2.1.isLt; have := p.2.2.isLt; omega⟩
  invFun k := (⟨k.val / 8, by have := k.isLt; omega⟩, ⟨k.val / 4 % 2, by omega⟩, ⟨k.val % 4, by omega⟩)
  left_inv := by
    rintro ⟨x, b, j⟩
    have := x.isLt; have := b.isLt; have := j.isLt
    refine Prod.ext (Fin.ext ?_) (Prod.ext (Fin.ext ?_) (Fin.ext ?_))
    · show (8 * x.val + 4 * b.val + j.val) / 8 = x.val; omega
    · show (8 * x.val + 4 * b.val + j.val) / 4 % 2 = b.val; omega
    · show (8 * x.val + 4 * b.val + j.val) % 4 = j.val; omega
  right_inv := by
    intro k
    have := k.isLt
    apply Fin.ext
    show 8 * (k.val / 8) + 4 * (k.val / 4 % 2) + k.val % 4 = k.val
    omega

theorem osem_ix (X : Fin 4) (b : Fin 2) (j : Fin 4) : osem (ownIx (X, b, j)) = .dma (dsem X b j.val) := by
  unfold osem ownIx dsem
  congr 1
  apply Fin.ext
  have := j.isLt
  show 8 * X.val + 4 * b.val + j.val + 3 = 3 + 8 * X.val + 4 * b.val + j.val % 4
  omega

omit [FloatOps F] in
theorem ico4_sep (Φ : ℕ → sProp 𝕄) : bigSep (Finset.Ico 0 4) Φ = iprop(Φ 0 ∗ Φ 1 ∗ Φ 2 ∗ Φ 3) := by
  rw [show Finset.Ico 0 4 = ((Finset.univ : Finset (Fin 4)).map Fin.valEmbedding) by decide, BI.bigSep_map, fin4_sep]
  rfl

omit [FloatOps F] in
/-- Four resources in another order. -/
theorem rot4 (A B C D : sProp 𝕄) : iprop(A ∗ B ∗ C ∗ D) = iprop(B ∗ C ∗ D ∗ A) := by
  have h₁ : iprop(A ∗ B ∗ C ∗ D) ⊢ iprop(B ∗ C ∗ D ∗ A) := by
    iintro ⟨HA, HB, HC, HD⟩
    isplitl [HB]; · iexact HB
    isplitl [HC]; · iexact HC
    isplitl [HD]; · iexact HD
    iexact HA
  have h₂ : iprop(B ∗ C ∗ D ∗ A) ⊢ iprop(A ∗ B ∗ C ∗ D) := by
    iintro ⟨HB, HC, HD, HA⟩
    isplitl [HA]; · iexact HA
    isplitl [HB]; · iexact HB
    isplitl [HC]; · iexact HC
    iexact HD
  exact BI.Entails.antisymm h₁ h₂

/-- A stream's eight cells, send array and receive array. -/
def strCells (Φ : GSem nD τ sig → sProp 𝕄) (X : Fin 4) (c : Dev nD) : sProp 𝕄 :=
  iprop((bigSep (Finset.Ico 0 4) fun t => Φ (sCell X t c)) ∗ bigSep (Finset.Ico 0 4) fun t => Φ (rCell X t c))

omit [FloatOps F] in
theorem own_cut (Φ : GSem nD τ sig → sProp 𝕄) (c : Dev nD) :
    (bigSep Finset.univ fun k : Fin 32 => Φ ((c : Thread nD τ), osem k)) = bigSep Finset.univ fun X : Fin 4 => strCells Φ X c := by
  rw [bigSep_univ_equiv ownIx, bigSep_univ_prod]
  refine bigSep_congr fun X _ => ?_
  rw [bigSep_univ_prod, bigSep_univ_eq_bigSepL [(0 : Fin 2), 1] (by decide) (by decide)]
  show iprop((bigSep Finset.univ fun j : Fin 4 => Φ ((c : Thread nD τ), osem (ownIx (X, 0, j))))
    ∗ bigSep Finset.univ fun j : Fin 4 => Φ ((c : Thread nD τ), osem (ownIx (X, 1, j)))) = _
  unfold strCells
  rw [fin4_sep, fin4_sep, ico4_sep, ico4_sep]
  simp only [osem_ix]
  rw [rot4 (Φ ((c : Thread nD τ), .dma (dsem X 1 (0 : Fin 4).val)))]
  rfl

omit [FloatOps F] in
theorem cells_cut (Φ : GSem nD τ sig → sProp 𝕄) (c : Dev nD) :
    (bigSep Finset.univ fun k : Fin 33 => Φ (kcell (c, k))) = iprop(Φ (barCell c) ∗ bigSep Finset.univ fun X : Fin 4 => strCells Φ X c) := by
  rw [cells_own, ← own_cut]
  unfold kcell
  simp only [csem_succ]
  rfl

omit [FloatOps F] in
/-- The cells of four consecutive sends are the array's, whichever the first. -/
theorem ico15_sep (Φ : ℕ → sProp 𝕄) (h : ∀ t, Φ t = Φ (t + 4)) : bigSep (Finset.Ico 15 19) Φ = bigSep (Finset.Ico 0 4) Φ := by
  rw [ico4_sep, show Finset.Ico 15 19 = ((Finset.univ : Finset (Fin 4)).map ⟨fun i => i.val + 15, fun i j hij => Fin.ext (Nat.add_right_cancel hij)⟩) by decide,
    BI.bigSep_map, fin4_sep]
  show iprop(Φ 15 ∗ Φ 16 ∗ Φ 17 ∗ Φ 18) = _
  rw [← h 14, ← h 13, ← h 12, ← h 11, ← h 10, ← h 9, ← h 8, ← h 7, ← h 6, ← h 5, ← h 4, ← h 3, ← h 2, ← h 1, ← h 0, rot4]

end Cert.RingProof

end
-- ==== Proof.Close.lean ====
/-
What the one grid point leaves of the semaphores: every cell closed, its counter at zero; and the launch's
obligation for the body.
-/
module

public import proofs.«01_k».proof.Proof.Slots

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (ρ : Dev nD → PrngReg)

/-! ## Closing -/

omit [FloatOps F] in
/-- A persistent fact is at hand in each of many steps. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h₁ : iprop(R ∗ bigSep S Φ) ⊢ bigSep S fun i => iprop(R ∗ Φ i) := by
    rw [bigSep_sep']; exact sep_mono_left (BI.bigSep_of_persistent S R)
  exact h₁.trans (bigSep_mono h)

theorem close_posS (X : Fin 4) (t : ℕ) (c : Dev nD) (h : 15 ≤ t) : iprop(env m ∗ posS X t c) ⊢ |={Set.univ}=> (semVal (sCell X t c) 0 : sProp 𝕄) := by
  unfold posS
  iintro ⟨#He, Hat, -⟩
  ihave Hi := (env_dma m X 0 t c) $$ He
  icases Hi with ⟨%κ, #Hi⟩
  iapply (Rounds.cell_close ER (ringRd m) (Set.mem_univ κ) (fun h => h) (R := t / 4) (fun r hr => duties_s_done m X t c h r hr))
  isplitr; · iexact Hi
  iexact Hat

theorem close_posR (X : Fin 4) (t : ℕ) (c : Dev nD) (h : 15 ≤ t) : iprop(env m ∗ posR X t c) ⊢ |={Set.univ}=> (semVal (rCell X t c) 0 : sProp 𝕄) := by
  unfold posR
  iintro ⟨#He, Hat, -⟩
  ihave Hi := (env_dma m X 1 (t + 1) c) $$ He
  icases Hi with ⟨%κ, #Hi⟩
  iapply (Rounds.cell_close ER (ringRd m) (Set.mem_univ κ) (fun h => h) (R := t / 4) (fun r hr => duties_r_done m X t c h r hr))
  isplitr; · iexact Hi
  iexact Hat

/-- All counters of a stream at zero. -/
def zeros (X : Fin 4) (c : Dev nD) : sProp 𝕄 := strCells (fun g => semVal g 0) X c

theorem close_str (X : Fin 4) (c : Dev nD) : iprop(env m ∗ endSt X c) ⊢ |={Set.univ}=> (zeros X c : sProp 𝕄) := by
  unfold endSt zeros strCells winS winR
  rw [← ico15_sep (fun t => (semVal (sCell X t c) 0 : sProp 𝕄)) (fun t => by rw [← sCell_succ]),
    ← ico15_sep (fun t => (semVal (rCell X t c) 0 : sProp 𝕄)) (fun t => by rw [← rCell_succ])]
  iintro ⟨#He, Hs, Hr⟩
  imod ((each_with fun t ht => close_posS m X t c (Finset.mem_Ico.mp ht).1).trans (bigSep_fupd (Finset.Ico 15 19) fun t => (semVal (sCell X t c) 0 : sProp 𝕄))) $$ [Hs] with Hs
  · isplitr; · iexact He
    iexact Hs
  imod ((each_with fun t ht => close_posR m X t c (Finset.mem_Ico.mp ht).1).trans (bigSep_fupd (Finset.Ico 15 19) fun t => (semVal (rCell X t c) 0 : sProp 𝕄))) $$ [Hr] with Hr
  · isplitr; · iexact He
    iexact Hr
  imodintro
  isplitl [Hs] <;> iassumption

theorem close_bar (c : Dev nD) : iprop(env m ∗ atPos ER (barCell c) 1 ∅ 0) ⊢ |={Set.univ}=> (semVal (barCell c) 0 : sProp 𝕄) := by
  iintro ⟨#He, Hat⟩
  ihave Hi := (env_bar m c) $$ He
  icases Hi with ⟨%κ, #Hi⟩
  iapply (Rounds.cell_close ER (ringRd m) (Set.mem_univ κ) (fun h => h) (R := 1) (fun r hr => duties_bar_done m c r hr))
  isplitr; · iexact Hi
  iexact Hat

/-! ## The state before and after the point -/

/-- What the launch hands the body beyond its buffers. -/
def start (c : Dev nD) : sProp 𝕄 := iprop(env m ∗ (preSt 0 c ∗ preSt 1 c ∗ preSt 2 c ∗ preSt 3 c) ∗ barSt c)

def bufs (c : Dev nD) : sProp 𝕄 := iprop(bufAny 0 c ∗ bufAny 1 c ∗ bufAny 2 c ∗ bufAny 3 c)

def Φ₀ (c : Dev nD) : sProp 𝕄 := iprop(start m c ∗ bufs c)
/-- After the point every counter is at zero and the buffers are whole. -/
def Φ₁ (c : Dev nD) : sProp 𝕄 := iprop(semVal (barCell c) 0 ∗ (zeros 0 c ∗ zeros 1 c ∗ zeros 2 c ∗ zeros 3 c) ∗ bufs c)

theorem body_in (c : Dev nD) : (Φ₀ m c : sProp 𝕄) ⊢ bodyPre m c := by
  unfold Φ₀ start bodyPre bufs
  iintro ⟨⟨#He, Hs, Hb⟩, H0, H1, H2, H3⟩
  ihave H0 := (buf_cut_0 (F := F) c) $$ H0
  ihave H1 := (buf_cut_1 (F := F) c) $$ H1
  ihave H2 := (buf_cut_2 (F := F) c) $$ H2
  ihave H3 := (buf_cut_3 (F := F) c) $$ H3
  isplitr; · iexact He
  isplitl [Hs]; · iexact Hs
  isplitl [H0 H1 H2 H3]
  · isplitl [H0]; · iexact H0
    isplitl [H1]; · iexact H1
    isplitl [H2]; · iexact H2
    iexact H3
  iexact Hb

theorem body_out (c : Dev nD) : bodyPost m c ⊢ |={Set.univ}=> (Φ₁ c : sProp 𝕄) := by
  unfold Φ₁ bodyPost bufs
  iintro ⟨#He, ⟨S0, S1, S2, S3⟩, ⟨H0, H1, H2, H3⟩, Hb⟩
  ihave H0 := (buf_join_0 (F := F) c) $$ H0
  ihave H1 := (buf_join_1 (F := F) c) $$ H1
  ihave H2 := (buf_join_2 (F := F) c) $$ H2
  ihave H3 := (buf_join_3 (F := F) c) $$ H3
  imod (close_bar m c) $$ [Hb] with Hb
  · isplitr; · iexact He
    iexact Hb
  imod (close_str m 0 c) $$ [S0] with S0
  · isplitr; · iexact He
    iexact S0
  imod (close_str m 1 c) $$ [S1] with S1
  · isplitr; · iexact He
    iexact S1
  imod (close_str m 2 c) $$ [S2] with S2
  · isplitr; · iexact He
    iexact S2
  imod (close_str m 3 c) $$ [S3] with S3
  · isplitr; · iexact He
    iexact S3
  imodintro
  isplitl [Hb]; · iexact Hb
  isplitl [S0 S1 S2 S3]
  · isplitl [S0]; · iexact S0
    isplitl [S1]; · iexact S1
    isplitl [S2]; · iexact S2
    iexact S3
  isplitl [H0]; · iexact H0
  isplitl [H1]; · iexact H1
  isplitl [H2]; · iexact H2
  iexact H3

/-! ## The launch's data -/

/-- Arrays at what they hold, windows at what the body leaves in them, the ring's state around the one point. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem three_sep (Φ : Fin cfg0.W → sProp 𝕄) : bigSep Finset.univ Φ = iprop(Φ (0 : Fin 3) ∗ Φ (1 : Fin 3) ∗ Φ (2 : Fin 3)) := bigSep_W0 Φ

theorem fetches_x (t : Fin cfg0.N) : (cfg0.win (0 : Fin 3)).fetch t = true := by rw [fin_N0 t]; rfl
theorem fetches_w (t : Fin cfg0.N) : (cfg0.win (1 : Fin 3)).fetch t = true := by rw [fin_N0 t]; rfl

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

def pointPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def pointPost (c : Dev nD) : sProp 𝕄 :=
  iprop(Φ₁ c ∗ (dats m ρ 0 c).owesAt 0 t0_0.succ ∗ stg c cc0_stg0_0 (xstg m c) ∗ stg c cc0_stg1_0 (wstg m c) ∗ stg c cc0_stg2_0 (outAt m c))

theorem point_in (c : Dev nD) : pointPre m ρ c ⊢ iprop(∃ f, bodyPre m c ∗ owesAny c (O₀ c) ∗ xPts m c ∗ wPts m c ∗ outPts c f) := by
  unfold pointPre
  iintro ⟨HΦ, Ho, ⟨%d0, %g0, %hg0, Hx⟩, ⟨%d1, %g1, %hg1, Hw⟩, ⟨%d2, %g2, %hg2, Hout⟩⟩
  have hx : g0 = xstg m c := by rw [hg0]; unfold Dat.before; rw [if_pos (fetches_x t0_0)]; rfl
  have hw : g1 = wstg m c := by rw [hg1]; unfold Dat.before; rw [if_pos (fetches_w t0_0)]; rfl
  subst hx hw
  unfold Dat.owesAt Pipeline.owesWithin
  icases Ho with ⟨%W, %hW, HO⟩
  rw [show (dats m ρ 0 c).owed t0_0.castSucc = O₀ c from rfl]
  ihave HΦ := (body_in m c) $$ HΦ
  unfold owesAny xPts wPts outPts
  iexists g2
  isplitl [HΦ]; · iexact HΦ
  isplitl [HO]; · iexists W; iexact HO
  isplitl [Hx]; · iexact Hx
  isplitl [Hw]; · iexact Hw
  iexact Hout

theorem point_out (c : Dev nD) :
    iprop(bodyPost m c ∗ owesAny c 0 ∗ xPts m c ∗ wPts m c ∗ outPts c (outAt m c)) ⊢ |={Set.univ}=> pointPost m ρ c := by
  unfold pointPost owesAny xPts wPts outPts Dat.owesAt Pipeline.owesWithin
  rw [show (dats m ρ 0 c).owed t0_0.succ = 0 from rfl]
  iintro ⟨HB, ⟨%W, HO⟩, Hx, Hw, Hout⟩
  imod (body_out m c) $$ HB with HB
  imodintro
  isplitl [HB]; · iexact HB
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 20000 in
/-- The library's obligation for the body, on device `c`. -/
theorem body_obligation (c : Dev nD) : BodyObligation (dats (F := F) m ρ 0 c) (defs₀ (F := F)) 𝒱₀ 0 Set.univ := fun t => by
  rw [fin_N0 t]
  rw [three_sep, three_sep]
  simp only [owns_stg]
  show pointPre m ρ c ⊢ wp frame (wpE (defs₀ (F := F)) 𝒱₀ c none) Set.univ
    (cc0_body (F := F) (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7
        cc0_scratch8 cc0_scratch9 cc0_scratch10 cc0_scratch11) (fun _ => pointPost m ρ c)
  iintro H
  ihave H := (point_in m ρ c) $$ H
  icases H with ⟨%f, H⟩
  iapply (wp_fupd (Q := fun _ : PUnit => pointPost m ρ c))
  iapply (wp_mono (Q := fun _ : PUnit => iprop(bodyPost m c ∗ owesAny c 0 ∗ xPts m c ∗ wPts m c ∗ outPts c (outAt m c)))
    (Q' := fun _ : PUnit => iprop(|={Set.univ}=> pointPost m ρ c)) (hQ := fun _ => point_out m ρ c))
  iapply (body_wp m c f)
  iexact H

end Cert.RingProof

end
-- ==== Proof.Credits.lean ====
/-
The credit the launch deals: what all devices owe, summed, is what each waits for on its own cells.
-/
module

public import proofs.«01_k».proof.Proof.Close

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- What stream `X` of device `c` waits for: the landings of its neighbour's fifteen sends. -/
def dueS (X : Fin 4) (c : Dev nD) : CellTallies nD τ sig ℕ := ∑ t ∈ Finset.Ico 0 15, tallyAt (rCell X t c) (2 + t) N

/-- All that device `c` waits for. -/
def due (c : Dev nD) : CellTallies nD τ sig ℕ := dueS 0 c + dueS 1 c + dueS 2 c + dueS 3 c + tallyAt (barCell c) 1 1 + tallyAt (barCell c) 1 1

/-- A stream's step to its target, as a bijection. -/
def along (X : Fin 4) : Dev nD ≃ Dev nD := ⟨tgt X, src X, src_tgt X, tgt_src X⟩

theorem oweS_due (X : Fin 4) (c : Dev nD) : oweS X 0 c = dueS X (along X c) := rfl

theorem sum_oweS (X : Fin 4) : (∑ c, oweS X 0 c) = ∑ c, dueS X c :=
  Equiv.sum_comp (along X) (dueS X)

theorem sum_bar (e : Dev nD ≃ Dev nD) : (∑ c, (tallyAt (barCell (e c)) 1 1 : CellTallies nD τ sig ℕ)) = ∑ c, tallyAt (barCell c) 1 1 :=
  Equiv.sum_comp e (fun c => (tallyAt (barCell c) 1 1 : CellTallies nD τ sig ℕ))

theorem sum_owed : (∑ c, O₀ c) = ∑ c, due c := by
  unfold O₀ due owe4
  simp only [Finset.sum_add_distrib]
  rw [sum_oweS, sum_oweS, sum_oweS, sum_oweS]
  have h₁ := sum_bar ring
  have h₂ := sum_bar ring.symm
  exact congrArg₂ (· + ·) (congrArg₂ (· + ·) rfl h₁) h₂

theorem dueS_own (X : Fin 4) (c : Dev nD) (g : GSem nD τ sig) (h : g.1 ≠ (c : Thread nD τ)) : dueS X c g = 0 := by
  unfold dueS
  rw [Finset.sum_apply]
  exact Finset.sum_eq_zero fun t _ => tallyAt_ne_cell (fun e => h (congrArg Prod.fst e)) _ _

theorem due_own (c : Dev nD) (g : GSem nD τ sig) (h : due c g ≠ 0) : g.1 = (c : Thread nD τ) := by
  by_contra hg
  apply h
  have hb : (tallyAt (barCell c) 1 1 : CellTallies nD τ sig ℕ) g = 0 := tallyAt_ne_cell (fun e => hg (congrArg Prod.fst e)) _ _
  unfold due
  simp only [Pi.add_apply]
  rw [dueS_own 0 c g hg, dueS_own 1 c g hg, dueS_own 2 c g hg, dueS_own 3 c g hg, hb]
  simp only [add_zero]

omit [FloatOps F] in
theorem two_creds (A B : CellTallies nD τ sig ℕ) : (cred (A + B) : sProp 𝕄) = iprop(cred A ∗ cred B) :=
  BI.Entails.antisymm (cred_add A B).1 (cred_add A B).2

omit [FloatOps F] in
/-- Dealt out: each stream its fifteen credits, the barrier two. -/
theorem creds (c : Dev nD) : (Pipeline.launchCred O₀ c : sProp 𝕄)
    ⊢ iprop((bigSep Finset.univ fun X : Fin 4 => bigSep (Finset.Ico 0 15) fun t => recvCred X t c) ∗ cred (tallyAt (barCell c) 1 2)) := by
  rw [Pipeline.launchCred_of_sum O₀ due sum_owed due_own c, fin4_sep]
  unfold due recvCred
  rw [add_assoc, tallyAt_add]
  simp only [two_creds]
  unfold dueS
  simp only [Pipeline.cred_finsetSum]
  iintro ⟨⟨⟨⟨H0, H1⟩, H2⟩, H3⟩, Hb⟩
  isplitl [H0 H1 H2 H3]
  · isplitl [H0]; · iexact H0
    isplitl [H1]; · iexact H1
    isplitl [H2]; · iexact H2
    iexact H3
  iexact Hb

end Cert.RingProof

end
-- ==== Proof.Ghost.lean ====
/-
The launch's ghost state: what is minted for each device's cells, and how it is dealt round the ring.
-/
module

public import proofs.«01_k».proof.Proof.Credits

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The tokens minted -/

theorem kcell_injective : Function.Injective (kcell : Dev nD × Fin 33 → GSem nD τ sig) := by
  rintro ⟨c, k⟩ ⟨c', k'⟩ h
  have h₁ : c = c' := congrArg (fun g : GSem nD τ sig => g.1.1) h
  have h₂ : csem k = csem k' := congrArg Prod.snd h
  subst h₁
  refine Prod.ext rfl (Fin.ext ?_)
  show k.val = k'.val
  unfold csem at h₂
  split at h₂ <;> split at h₂
  · omega
  · cases h₂
  · cases h₂
  · have h₃ : k.val + 2 = k'.val + 2 := congrArg (fun s : SemLoc sig => match s with | .dma q => q.val | .reg _ => 0) h₂
    omega

/-- All cells of the ring. -/
def ringCells : Finset (GSem nD τ sig) := Finset.univ.map ⟨kcell, kcell_injective⟩

/-- Names of a device's duties: its barrier's two; per stream, array and send one. -/
abbrev TokIx : Type := Bool ⊕ (Fin 4 × Fin 2 × Fin 15)

/-- The duty of that name. -/
def tokOf (p : Dev nD × TokIx) : GSem nD τ sig × ℕ × Bool := match p.2 with
  | .inl b => (barCell p.1, 0, b)
  | .inr q => (((p.1 : Thread nD τ), .dma (dsem q.1 q.2.1 (q.2.2.val + q.2.1.val))), q.2.2.val / 4, false)

/-- A duty's semaphore as a number. -/
def semNo (x : GSem nD τ sig × ℕ × Bool) : ℕ := match x.1.2 with | .reg _ => 0 | .dma q => q.val

theorem tokOf_injective : Function.Injective tokOf := by
  rintro ⟨c, j⟩ ⟨c', j'⟩ h
  have h₁ : c = c' := by
    have := congrArg (fun x : GSem nD τ sig × ℕ × Bool => x.1.1.1) h
    match j, j' with
    | .inl _, .inl _ => exact this
    | .inl _, .inr _ => exact this
    | .inr _, .inl _ => exact this
    | .inr _, .inr _ => exact this
  subst h₁
  have hn := congrArg semNo h
  match j, j' with
  | .inl b, .inl b' =>
    have hb : b = b' := congrArg (fun x : GSem nD τ sig × ℕ × Bool => x.2.2) h
    rw [hb]
  | .inl b, .inr ⟨X, a, t⟩ =>
    have : 0 = 3 + 8 * X.val + 4 * a.val + (t.val + a.val) % 4 := hn
    omega
  | .inr ⟨X, a, t⟩, .inl b =>
    have : 3 + 8 * X.val + 4 * a.val + (t.val + a.val) % 4 = 0 := hn
    omega
  | .inr ⟨X, a, t⟩, .inr ⟨X', a', t'⟩ =>
    have h₂ : 3 + 8 * X.val + 4 * a.val + (t.val + a.val) % 4 = 3 + 8 * X'.val + 4 * a'.val + (t'.val + a'.val) % 4 := hn
    have h₃ : t.val / 4 = t'.val / 4 := congrArg (fun x : GSem nD τ sig × ℕ × Bool => x.2.1) h
    have := a.isLt; have := a'.isLt
    have hX : X = X' := Fin.ext (by omega)
    have ha : a = a' := Fin.ext (by omega)
    have ha' := congrArg Fin.val ha
    have ht : t = t' := Fin.ext (by omega)
    rw [hX, ha, ht]

def ringToks : Finset (GSem nD τ sig × ℕ × Bool) := Finset.univ.map ⟨tokOf, tokOf_injective⟩

/-- The element the launch starts from: the staging cells' and the ring's. -/
def u₀ : UU := (initOf (Pipeline.cells cfgs cellOf_inj) (Pipeline.launchToks cfgs cellOf_inj), initOf ringCells ringToks)

omit [FloatOps F] in
theorem ico_fin15 (Φ : ℕ → sProp 𝕄) : (bigSep Finset.univ fun t : Fin 15 => Φ t.val) = bigSep (Finset.Ico 0 15) Φ := by
  rw [show Finset.Ico 0 15 = ((Finset.univ : Finset (Fin 15)).map Fin.valEmbedding) by decide, BI.bigSep_map]
  rfl

/-- A stream's send duties, and its receive duties, on device `c`'s cells. -/
def tokS (X : Fin 4) (c : Dev nD) : sProp 𝕄 := bigSep (Finset.Ico 0 15) fun t => dutyTok ER (sCell X t c) (t / 4) false
def tokR (X : Fin 4) (c : Dev nD) : sProp 𝕄 := bigSep (Finset.Ico 0 15) fun t => dutyTok ER (rCell X t c) (t / 4) false

/-- All duties on device `c`'s own cells. -/
def toks (c : Dev nD) : sProp 𝕄 :=
  iprop((dutyTok ER (barCell c) 0 true ∗ dutyTok ER (barCell c) 0 false) ∗ bigSep Finset.univ fun X : Fin 4 => iprop(tokS X c ∗ tokR X c))

omit [FloatOps F] in
theorem toks_of (c : Dev nD) : (bigSep Finset.univ fun j : TokIx => (dutyTok ER (tokOf (c, j)).1 (tokOf (c, j)).2.1 (tokOf (c, j)).2.2 : sProp 𝕄)) = toks c := by
  rw [BI.bigSep_univ_sum, bigSep_univ_eq_bigSepL [true, false] (by decide) (by decide), bigSep_univ_prod]
  unfold toks tokS tokR
  refine congrArg₂ (fun A B : sProp 𝕄 => iprop(A ∗ B)) rfl ?_
  refine bigSep_congr fun X _ => ?_
  rw [bigSep_univ_prod, bigSep_univ_eq_bigSepL [(0 : Fin 2), 1] (by decide) (by decide), ← ico_fin15, ← ico_fin15]
  rfl

/-- What the launch deals device `c` before anything is shared. -/
def G (c : Dev nD) : sProp 𝕄 :=
  iprop((bigSep Finset.univ fun k : Fin 33 => roundState ER (ringRd m) (kcell (c, k)) 0)
    ∗ (bigSep Finset.univ fun k : Fin 33 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod]
    exact bigSep_congr fun c _ => toks_of c
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The counters -/

omit [FloatOps F] in
theorem unscoped_bar (c : Dev nD) : (unscopedSems0 c : sProp 𝕄) = semVal (barCell c) 0 := by
  unfold unscopedSems0; rw [bigSep_eq_bigSepL_of_eq [SemLoc.reg barS] (by decide) (by decide)]; rfl

omit [FloatOps F] in
theorem own_zeros (c : Dev nD) : (Pipeline.ownSems0 (Ix := ℕ) (Name := ℕ) (U := UU) (Lvl := ℕ) (Val := Elt F) (τ := τ) osem c : sProp 𝕄)
    = bigSep Finset.univ fun X : Fin 4 => strCells (fun g => semVal g 0) X c :=
  own_cut (fun g => (semVal g 0 : sProp 𝕄)) c

omit [FloatOps F] in
theorem all_zeros (c : Dev nD) :
    iprop(Pipeline.ownSems0 (Ix := ℕ) (Name := ℕ) (U := UU) (Lvl := ℕ) (Val := Elt F) (τ := τ) osem c ∗ unscopedSems0 c)
      ⊢ (bigSep Finset.univ fun k : Fin 33 => semVal (kcell (c, k)) 0 : sProp 𝕄) := by
  rw [cells_cut (fun g => (semVal g 0 : sProp 𝕄)) c, own_zeros, unscoped_bar]
  iintro ⟨H, Hb⟩
  isplitl [Hb] <;> iassumption

/-- Each counter with its round state becomes an invariant. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  have hinv : iprop((bigSep Finset.univ fun k : Fin 33 => semVal (kcell (c, k)) 0) ∗ bigSep Finset.univ fun k : Fin 33 => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G
  iintro ⟨Hos, Hus, Hst, Hrest⟩
  ihave Hv := (all_zeros (F := F) c) $$ [Hos Hus]
  · isplitl [Hos] <;> iassumption
  imod hinv $$ [Hv Hst] with Hinv
  · isplitl [Hv] <;> iassumption
  imodintro
  isplitl [Hinv] <;> iassumption

/-! ## The deal -/

/-- The duties device `c` itself pays. -/
def pays (c : Dev nD) : sProp 𝕄 :=
  iprop((dutyTok ER (barCell (prv c)) 0 true ∗ dutyTok ER (barCell (nxt c)) 0 false)
    ∗ bigSep Finset.univ fun X : Fin 4 => bigSep (Finset.Ico 0 15) fun t => payTok X t c)

omit [FloatOps F] in
theorem pay_split (X : Fin 4) (c : Dev nD) : (bigSep (Finset.Ico 0 15) fun t => (payTok X t c : sProp 𝕄)) = iprop(tokS X c ∗ tokR X (along X c)) := by
  unfold payTok tokS tokR
  rw [bigSep_sep']
  rfl

omit [FloatOps F] in
/-- Every duty goes to the device that pays it. -/
theorem toks_around : (bigSep Finset.univ fun c : Dev nD => (toks c : sProp 𝕄)) = bigSep Finset.univ fun c : Dev nD => pays c := by
  have hR : (bigSep Finset.univ fun c : Dev nD => bigSep Finset.univ fun X : Fin 4 => (tokR X c : sProp 𝕄))
      = bigSep Finset.univ fun c : Dev nD => bigSep Finset.univ fun X : Fin 4 => (tokR X (along X c) : sProp 𝕄) := by
    simp only [fin4_sep, bigSep_sep']
    rw [bigSep_univ_equiv (along 0) (fun c => (tokR 0 c : sProp 𝕄)), bigSep_univ_equiv (along 1) (fun c => (tokR 1 c : sProp 𝕄)),
      bigSep_univ_equiv (along 2) (fun c => (tokR 2 c : sProp 𝕄)), bigSep_univ_equiv (along 3) (fun c => (tokR 3 c : sProp 𝕄))]
  unfold toks pays
  simp only [pay_split, bigSep_sep']
  rw [hR, bigSep_univ_equiv ring.symm (fun c : Dev nD => (dutyTok ER (barCell c) 0 true : sProp 𝕄)),
    bigSep_univ_equiv ring (fun c : Dev nD => (dutyTok ER (barCell c) 0 false : sProp 𝕄))]
  rfl

/-- What device `c` starts from, everything dealt. -/
def G' (c : Dev nD) : sProp 𝕄 :=
  iprop(envI m ∗ (bigSep Finset.univ fun X : Fin 4 => iprop(winS X 0 c ∗ winR X 0 c))
    ∗ (bigSep Finset.univ fun X : Fin 4 => bigSep (Finset.Ico 0 15) fun t => payTok X t c)
    ∗ atPos ER (barCell c) 0 ∅ 0
    ∗ (dutyTok ER (barCell (prv c)) 0 true ∗ reached ER (barCell (prv c)) 0) ∗ (dutyTok ER (barCell (nxt c)) 0 false ∗ reached ER (barCell (nxt c)) 0))

/-- What all devices share: the invariants, and that every barrier is at its first round. -/
def shared : sProp 𝕄 := iprop(envI m ∗ bigSep Finset.univ fun c : Dev nD => reached ER (barCell c) 0)

instance shared_persistent : BI.Persistent (shared (F := F) m) := by unfold shared; infer_instance

/-- What is one device's alone. -/
def alone (c : Dev nD) : sProp 𝕄 :=
  iprop(atPos ER (barCell c) 0 ∅ 0 ∗ (bigSep Finset.univ fun X : Fin 4 => iprop(winS X 0 c ∗ winR X 0 c)) ∗ pays c)

omit [FloatOps F] in
theorem reached_at (c : Dev nD) : (bigSep Finset.univ fun c : Dev nD => (reached ER (barCell c) 0 : sProp 𝕄)) ⊢ reached ER (barCell c) 0 :=
  bigSep_elim (Finset.mem_univ c)

theorem deal_one (c : Dev nD) : iprop(shared m ∗ alone c) ⊢ G' m c := by
  unfold shared alone pays G'
  iintro ⟨⟨#HI, #HR⟩, Hat, Hw, ⟨Ht, Hf⟩, Hp⟩
  isplitr; · iexact HI
  isplitl [Hw]; · iexact Hw
  isplitl [Hp]; · iexact Hp
  isplitl [Hat]; · iexact Hat
  isplitl [Ht]
  · isplitl [Ht]; · iexact Ht
    iapply (reached_at (F := F) (prv c)); iexact HR
  isplitl [Hf]; · iexact Hf
  iapply (reached_at (F := F) (nxt c)); iexact HR

omit [FloatOps F] in
theorem win_cells (X : Fin 4) (c : Dev nD) : strCells (fun g => iprop(atPos ER g 0 ∅ 0 ∗ reached ER g 0)) X c = (iprop(winS X 0 c ∗ winR X 0 c) : sProp 𝕄) := by
  unfold strCells winS winR posS posR
  have h (t : ℕ) (ht : t ∈ Finset.Ico 0 (0 + 4)) : t / 4 = 0 := Nat.div_eq_of_lt (Finset.mem_Ico.mp ht).2
  exact congrArg₂ (fun A B : sProp 𝕄 => iprop(A ∗ B)) (bigSep_congr fun t ht => by rw [h t ht]) (bigSep_congr fun t ht => by rw [h t ht])

omit [FloatOps F] in
theorem pos_cut (c : Dev nD) : (bigSep Finset.univ fun k : Fin 33 => iprop(atPos ER (kcell (c, k)) 0 ∅ 0 ∗ reached ER (kcell (c, k)) 0))
    = (iprop((atPos ER (barCell c) 0 ∅ 0 ∗ reached ER (barCell c) 0) ∗ bigSep Finset.univ fun X : Fin 4 => iprop(winS X 0 c ∗ winR X 0 c)) : sProp 𝕄) := by
  rw [cells_cut (fun g => (iprop(atPos ER g 0 ∅ 0 ∗ reached ER g 0) : sProp 𝕄)) c]
  simp only [win_cells]

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  have hI : (bigSep Finset.univ fun c : Dev nD => bigSep Finset.univ fun k => iprop(∃ κ : ℕ, cellInv ER (ringRd m) κ (kcell (c, k)))) = envI m := by
    unfold envI; rw [bigSep_univ_prod]
  have hA : (bigSep Finset.univ fun c : Dev nD => (alone c : sProp 𝕄)) = iprop((bigSep Finset.univ fun c : Dev nD => atPos ER (barCell c) 0 ∅ 0)
      ∗ (bigSep Finset.univ fun c : Dev nD => bigSep Finset.univ fun X : Fin 4 => iprop(winS X 0 c ∗ winR X 0 c)) ∗ bigSep Finset.univ fun c : Dev nD => pays c) := by
    unfold alone
    rw [bigSep_sep', bigSep_sep']
  simp only [pos_cut]
  rw [bigSep_sep', bigSep_sep', bigSep_sep', bigSep_sep', hI, toks_around]
  iintro ⟨#HI, ⟨⟨Hat, #HR⟩, Hw⟩, Hp⟩
  iapply (each_with (R := shared m) fun c _ => deal_one m c)
  isplitr
  · unfold shared
    isplitr; · iexact HI
    iexact HR
  iapply (Entails.of_eq hA.symm)
  isplitl [Hat]; · iexact Hat
  isplitl [Hw] <;> iassumption

/-- The launch's one step over all devices at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.RingProof

end
-- ==== Proof.Launch.lean ====
/-
The launch: on sixteen devices every execution of the kernel ends, with each device's result array at the computed
contents, its two argument arrays as they were and every counter at zero.
-/
module

public import proofs.«01_k».proof.Proof.Ghost
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (ρ : Dev nD → PrngReg)

theorem ownSemFacts : Pipeline.OwnSemFacts cfg0.spec osem := by decide

theorem share_full (c : Dev nD) (w : Fin cfg0.W) : (dats m ρ 0 c).share w = fullShare := by unfold Dat.share; split <;> rfl

theorem start_of (c : Dev nD) :
    iprop(levAts L lv ∗ Pipeline.launchCred O₀ c ∗ G' m c) ⊢ start m c := by
  unfold G' start env preSt barSt
  simp only [fin4_sep]
  iintro ⟨#Hlev, Hcr, #HI, ⟨⟨S0, R0⟩, ⟨S1, R1⟩, ⟨S2, R2⟩, ⟨S3, R3⟩⟩, ⟨P0, P1, P2, P3⟩, Hat, Hp, Hn⟩
  ihave Hc := (creds (F := F) c) $$ Hcr
  icases Hc with ⟨Hc, Hb⟩
  ihave Hc := (Entails.of_eq (fin4_sep (F := F) (fun X : Fin 4 => bigSep (Finset.Ico 0 15) fun t => recvCred X t c))) $$ Hc
  icases Hc with ⟨C0, C1, C2, C3⟩
  isplitr
  · isplitr; · iexact HI
    iexact Hlev
  isplitl [S0 R0 P0 C0 S1 R1 P1 C1 S2 R2 P2 C2 S3 R3 P3 C3]
  · isplitl [S0 R0 P0 C0]
    · isplitl [C0]; · iexact C0
      isplitl [S0]; · iexact S0
      isplitl [R0]; · iexact R0
      iexact P0
    isplitl [S1 R1 P1 C1]
    · isplitl [C1]; · iexact C1
      isplitl [S1]; · iexact S1
      isplitl [R1]; · iexact R1
      iexact P1
    isplitl [S2 R2 P2 C2]
    · isplitl [C2]; · iexact C2
      isplitl [S2]; · iexact S2
      isplitl [R2]; · iexact R2
      iexact P2
    isplitl [C3]; · iexact C3
    isplitl [S3]; · iexact S3
    isplitl [R3]; · iexact R3
    iexact P3
  isplitl [Hat]; · iexact Hat
  isplitl [Hb]; · iexact Hb
  isplitl [Hp]; · iexact Hp
  iexact Hn

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave H := (start_of m c) $$ [Hlev Hcr HG]
  · isplitl [Hlev]; · iexact Hlev
    isplitl [Hcr] <;> iassumption
  imodintro
  isplitl [H]; · iexact H
  iempintro

omit [FloatOps F] in
/-- The launch's scoped buffers are the four streams'. -/
theorem rest_bufs (c : Dev nD) : (Pipeline.scopedRest cfg0.spec c : sProp 𝕄) = bufs c := scopedRest0_eq c

theorem state_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_bufs]
  unfold Φ₀
  iintro ⟨Hs, -, Hr⟩
  isplitl [Hs] <;> iassumption

theorem state_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, rest_bufs, own_zeros, unscoped_bar, fin4_sep]
  unfold Φ₁ zeros
  exact BI.Entails.refl _

theorem owed_above (c : Dev nD) : Above (0 + 1) (O₀ c) :=
  ((owe4_above c (by omega) (by omega) (by omega) (by omega)).add (Above.at (nxt c) (.reg barS) (by omega) (by omega))).add
    (Above.at (prv c) (.reg barS) (by omega) (by omega))

/-- Staging is at the lowest level, so its waits are allowed whatever is owed. -/
theorem waits (c : Dev nD) : (levAts L lv : sProp 𝕄) ⊢ Pipeline.cellsWaits cfgs (dats m ρ) 0 0 c :=
  Pipeline.cellsWaits_intro cfgs (dats m ρ) 0 0 c fun w s t =>
    mayWait c _ 0 (by omega) _ (by
      rcases t with ⟨_ | _, ht⟩
      · exact owed_above c
      · exact Above.zero _)

/-- An array's contents after the run. -/
def finalA (c : Dev nD) (w : Fin cfg0.W) : Buf (Elt F) ((cfg0.win w).arr.view.loc (c : Thread nD τ)) := (dats m ρ 0 c).arrAt w cfg0.N

/-- Every array of every device at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- The run, for any float values and any memory with zero counters. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := state_in m ρ) (hout := state_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays are as they were. -/
theorem finalA_x (c : Dev nD) : finalA m ρ c (0 : Fin 3) = m (win0_0.arr.view.loc (c : Thread nD τ)) :=
  (dats (F := F) m ρ 0 c).arrAt_in (0 : Fin 3) rfl _
theorem finalA_w (c : Dev nD) : finalA m ρ c (1 : Fin 3) = m (win0_1.arr.view.loc (c : Thread nD τ)) :=
  (dats (F := F) m ρ 0 c).arrAt_in (1 : Fin 3) rfl _

end Cert.RingProof

end
-- ==== Proof.Frames.lean ====
/-
The frames: every execution ends, the arguments as they were and every counter at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.RingProof

open Idealize.ShloMosaic Idealize.ShloMosaic.TcCoe Idealize.SL.Sem

/-- The kernel's run read at its arguments and its counters, for any float values. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main m ρ)

/-- The kernel at the ideal values. -/
theorem frame_ideal : Cert.quiescent_KernelIdeal (hKernelIdeal := Cert.KernelIdeal.Gen.facts) := fun m ρ _ => frame_run m ρ

set_option maxRecDepth 20000 in
/-- The two printed body tables are the same. -/
theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => exact rfl

set_option maxRecDepth 20000 in
theorem defs_same : Cert.Kernel.defs (F := Bits) = Cert.KernelIdeal.defs (F := Bits) := by
  unfold Cert.Kernel.defs Cert.KernelIdeal.defs
  rw [bodies_same]; rfl

set_option maxRecDepth 20000 in
/-- The kernel at the machine's values: its text is the same. -/
theorem frame_kernel : Cert.quiescent_Kernel (hKernel := Cert.Kernel.Gen.facts) := fun m ρ _ => by
  rw [defs_same]
  exact frame_run (F := Bits) m ρ

/-- The reference runs on the host and has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.RingProof

end
-- ==== Proof.Products.lean ====
/-
The operations between two transfers, read at an index over the extended reals: a partial product is a sum over the
contracted positions, and the hops only add.
-/
module

public import proofs.«01_k».proof.Proof.Contents
public import Idealize.ShloMosaic.Lib.ValueIdx
public import Idealize.ShloMosaic.Lib.MatmulPlain
public import Idealize.ShloMosaic.Lib.Pipeline.Value

@[expose] public section

noncomputable section

namespace Cert.RingProof

open Cert.KernelIdeal Cert.KernelIdeal.Gen

open Idealize.ShloMosaic Idealize.ShloMosaic.ValueIdx
open Idealize.ShloMosaic.TcCoe
open scoped BigOperators

variable (m : (ℓ : Loc nD τ sig) → Buf (Elt Ideal) ℓ)

/-- Device `c`'s column block of the left operand and its row block of the right one, by coordinates. -/
def xOf (c : Dev nD) (r : Fin 8192) (k : Fin 512) : EReal := (m ((c : Thread nD τ).loc main_arg0) : S8192x512.Idx → EReal) (ix2 r k)
def wOf (c : Dev nD) (k : Fin 512) (l : Fin 4096) : EReal := (m ((c : Thread nD τ).loc main_arg1) : S512x4096.Idx → EReal) (ix2 k l)

/-- Device `c`'s part of the product at one row and column: its 512 of the 8192 contracted positions. -/
def dotp (c : Dev nD) (r : Fin 8192) (l : Fin 4096) : EReal := ∑ k : Fin 512, xOf m c r k * wOf m c k l

/-- A staging buffer holds the whole argument. -/
theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem wstg_eq (c : Dev nD) : wstg m c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

/-- Row `r` of row block `q`. -/
def row (q : ℕ) (hq : q < 16) (r : Fin 512) : Fin 8192 := ⟨512 * q + r.val, by omega⟩
/-- Column `l` of half `h`. -/
def col0 (l : Fin 2048) : Fin 4096 := ⟨l.val, by omega⟩
def col1 (l : Fin 2048) : Fin 4096 := ⟨2048 + l.val, by omega⟩

theorem xBlk_apply (c : Dev nD) (q : ℕ) (hq : q < 16) (r k : Fin 512) : xBlk m c q hq (ix2 r k) = xOf m c (row q hq r) k := by
  unfold xBlk xOf
  rw [xstg_eq]
  refine congrArg (m ((c : Thread nD τ).loc main_arg0) : S8192x512.Idx → EReal) (funext fun a => Fin.ext ?_)
  match a with
  | 0 => show 512 * q + 1 * r.val = 512 * q + r.val; omega
  | 1 => show 0 + 1 * k.val = k.val; omega
theorem wBlk0_apply (c : Dev nD) (k : Fin 512) (l : Fin 2048) : wBlk0 m c (ix2 k l) = wOf m c k (col0 l) := by
  unfold wBlk0 wOf
  rw [wstg_eq]
  refine congrArg (m ((c : Thread nD τ).loc main_arg1) : S512x4096.Idx → EReal) (funext fun a => Fin.ext ?_)
  match a with
  | 0 => show 0 + 1 * k.val = k.val; omega
  | 1 => show 0 + 1 * l.val = l.val; omega
theorem wBlk1_apply (c : Dev nD) (k : Fin 512) (l : Fin 2048) : wBlk1 m c (ix2 k l) = wOf m c k (col1 l) := by
  unfold wBlk1 wOf
  rw [wstg_eq]
  refine congrArg (m ((c : Thread nD τ).loc main_arg1) : S512x4096.Idx → EReal) (funext fun a => Fin.ext ?_)
  match a with
  | 0 => show 0 + 1 * k.val = k.val; omega
  | 1 => show 2048 + 1 * l.val = 2048 + l.val; omega

/-- The product of two blocks at an index. -/
theorem prod_apply (x : FVec Ideal S512x512 .bf16) (w : FVec Ideal S512x2048 .bf16) (r : Fin 512) (l : Fin 2048) :
    matmul (F := Ideal) dot_S512x512_S512x2048_S512x2048_1_0_0_1_n_n none x w (constant S512x2048 .f32 0x00000000#32) (ix2 r l)
      = ∑ k : Fin 512, x (ix2 r k) * w (ix2 k l) := by
  refine (Ideal.matmul_plain_apply none x w (constant S512x2048 .f32 0x00000000#32) r l).trans ?_
  show Ideal.ofBits .f32 0x00000000#32 + _ = _
  rw [Ideal.ofBits_zero_f32, zero_add]

theorem part0_apply (c : Dev nD) (q : ℕ) (hq : q < 16) (r : Fin 512) (l : Fin 2048) :
    part0 m c q hq (ix2 r l) = dotp m c (row q hq r) (col0 l) := by
  unfold part0 k0_pay2
  simp only [shapeCast_self]
  rw [prod_apply]
  exact Finset.sum_congr rfl fun k _ => by rw [xBlk_apply, wBlk0_apply]
theorem part1_apply (c : Dev nD) (q : ℕ) (hq : q < 16) (r : Fin 512) (l : Fin 2048) :
    part1 m c q hq (ix2 r l) = dotp m c (row q hq r) (col1 l) := by
  unfold part1 k0_pay3
  simp only [shapeCast_self]
  rw [prod_apply]
  exact Finset.sum_congr rfl fun k _ => by rw [xBlk_apply, wBlk1_apply]

/-- Column `l` of stream `X`'s quarter: among the columns of its half, and among all. -/
def half (X : Fin 4) (l : Fin 1024) : Fin 2048 := ⟨1024 * (X.val % 2) + l.val, by omega⟩
def col (X : Fin 4) (l : Fin 1024) : Fin 4096 := ⟨1024 * X.val + l.val, by omega⟩

theorem prt_apply (X : Fin 4) (c : Dev nD) (s : ℕ) (r : Fin 512) (l : Fin 1024) :
    prt m X c s (ix2 r (half X l)) = dotp m c (row (chunk X c s) (chunk_lt X c s) r) (col X l) := by
  unfold prt
  split
  · rename_i h
    rw [part0_apply]
    congr 1
    · exact Fin.ext (by show 512 * chunkR c s + r.val = 512 * chunk X c s + r.val; unfold chunk; rw [if_pos h])
    · apply Fin.ext
      show 1024 * (X.val % 2) + l.val = 1024 * X.val + l.val
      revert h; fin_cases X <;> simp [goesRight]
  · rename_i h
    rw [part1_apply]
    congr 1
    · exact Fin.ext (by show 512 * chunkL c s + r.val = 512 * chunk X c s + r.val; unfold chunk; rw [if_neg h])
    · apply Fin.ext
      show 2048 + (1024 * (X.val % 2) + l.val) = 1024 * X.val + l.val
      revert h; fin_cases X <;> simp [goesRight] <;> omega

/-! ## The hops -/

/-- A quarter of a partial product, read in its half. -/
theorem slice_apply (off : ℕ) (p : FVec Ideal S512x2048 .f32) (h : S512x2048.Slices ![0, off] S512x1024) (r : Fin 512) (l : Fin 1024) (k : Fin 2048)
    (hk : k.val = off + l.val) : extractStridedSlice S512x1024 ![0, off] p h (ix2 r l) = p (ix2 r k) :=
  extractStridedSlice_apply _ _ _ _ _ fun a => match a with
    | 0 => (Nat.zero_add _).symm
    | 1 => hk

/-- A value in a slot with its one leading coordinate dropped, or put back. -/
theorem drop_apply {α : Type} (v : S1x512x1024.Idx → α) (h : S1x512x1024.ShapeCasts S512x1024) (r : Fin 512) (l : Fin 1024) :
    shapeCast S512x1024 v h (ix2 r l) = v (ix3 0 r l) := by
  refine (shapeCast_dropUnit_apply ![512, 1024] v h (ix2 r l)).trans (congrArg v (funext fun a => ?_))
  match a with
  | 0 => rfl
  | 1 => rfl
  | 2 => rfl
theorem add_apply {α : Type} (v : S512x1024.Idx → α) (h : S512x1024.ShapeCasts S1x512x1024) (r : Fin 512) (l : Fin 1024) :
    shapeCast S1x512x1024 v h (ix3 0 r l) = v (ix2 r l) := by
  refine (shapeCast_addUnit_apply ![512, 1024] v h (ix3 0 r l)).trans (congrArg v (funext fun a => ?_))
  match a with
  | 0 => rfl
  | 1 => rfl

theorem begin_apply (X : Fin 4) (p : FVec Ideal S512x2048 .f32) (r : Fin 512) (l : Fin 1024) :
    begin_ X p (ix3 0 r l) = p (ix2 r (half X l)) := by
  match X with
  | 0 => unfold begin_ k0_pay14 k0_pay13; exact (add_apply _ _ r l).trans (slice_apply 0 p slices_S512x2048_o0_0_S512x1024 r l _ rfl)
  | 1 => unfold begin_ k0_pay12; exact (add_apply _ _ r l).trans (slice_apply 1024 p slices_S512x2048_o0_1024_S512x1024 r l _ rfl)
  | 2 => unfold begin_ k0_pay14 k0_pay13; exact (add_apply _ _ r l).trans (slice_apply 0 p slices_S512x2048_o0_0_S512x1024 r l _ rfl)
  | 3 => unfold begin_ k0_pay15; exact (add_apply _ _ r l).trans (slice_apply 1024 p slices_S512x2048_o0_1024_S512x1024 r l _ rfl)

theorem step_apply (X : Fin 4) (p : FVec Ideal S512x2048 .f32) (v : FVec Ideal S1x512x1024 .bf16) (r : Fin 512) (l : Fin 1024) :
    (step X p v (ix3 0 r l) : EReal) = (v (ix3 0 r l) : EReal) + (p (ix2 r (half X l)) : EReal) := by
  match X with
  | 0 => unfold step k0_pay4; exact (add_apply _ _ r l).trans (congrArg₂ (fun a b : EReal => a + b) (drop_apply v _ r l) (slice_apply 0 p slices_S512x2048_o0_0_S512x1024 r l _ rfl))
  | 1 => unfold step k0_pay5; exact (add_apply _ _ r l).trans (congrArg₂ (fun a b : EReal => a + b) (drop_apply v _ r l) (slice_apply 1024 p slices_S512x2048_o0_1024_S512x1024 r l _ rfl))
  | 2 => unfold step k0_pay6; exact (add_apply _ _ r l).trans (congrArg₂ (fun a b : EReal => a + b) (drop_apply v _ r l) (slice_apply 0 p slices_S512x2048_o0_0_S512x1024 r l _ rfl))
  | 3 => unfold step k0_pay7; exact (add_apply _ _ r l).trans (congrArg₂ (fun a b : EReal => a + b) (drop_apply v _ r l) (slice_apply 1024 p slices_S512x2048_o0_1024_S512x1024 r l _ rfl))

theorem final_apply (X : Fin 4) (p : FVec Ideal S512x2048 .f32) (v : FVec Ideal S1x512x1024 .bf16) (r : Fin 512) (l : Fin 1024) :
    (final X p v (ix2 r l) : EReal) = ((v (ix3 0 r l) : EReal) + (p (ix2 r (half X l)) : EReal)) * Ideal.logistic ((v (ix3 0 r l) : EReal) + (p (ix2 r (half X l)) : EReal)) := by
  match X with
  | 0 => unfold final k0_pay18; exact congrArg₂ (fun a b : EReal => (a + b) * Ideal.logistic (a + b)) (drop_apply v _ r l) (slice_apply 0 p slices_S512x2048_o0_0_S512x1024 r l _ rfl)
  | 1 => unfold final k0_pay20 k0_pay19; exact congrArg₂ (fun a b : EReal => (a + b) * Ideal.logistic (a + b)) (drop_apply v _ r l) (slice_apply 1024 p slices_S512x2048_o0_1024_S512x1024 r l _ rfl)
  | 2 => unfold final k0_pay21; exact congrArg₂ (fun a b : EReal => (a + b) * Ideal.logistic (a + b)) (drop_apply v _ r l) (slice_apply 0 p slices_S512x2048_o0_0_S512x1024 r l _ rfl)
  | 3 => unfold final k0_pay1; exact congrArg₂ (fun a b : EReal => (a + b) * Ideal.logistic (a + b)) (drop_apply v _ r l) (slice_apply 1024 p slices_S512x2048_o0_1024_S512x1024 r l _ rfl)

end Cert.RingProof

end
-- ==== Proof.Sum.lean ====
/-
What a device ends with: the sum over all devices of their parts, times its logistic; and the reference's entry.
-/
module

public import proofs.«01_k».proof.Proof.Products
public import Idealize.ShloMosaic.Lib.StackMember

@[expose] public section

noncomputable section

namespace Cert.RingProof

open Cert.KernelIdeal Cert.KernelIdeal.Gen

open Idealize.ShloMosaic Idealize.ShloMosaic.ValueIdx
open Idealize.ShloMosaic.TcCoe
open scoped BigOperators

variable (m : (ℓ : Loc nD τ sig) → Buf (Elt Ideal) ℓ)

/-! ## Round the ring -/

/-- The neighbour a stream comes from works one step behind on the same row block. -/
theorem chunk_src (X : Fin 4) (c : Dev nD) (s : Fin 16) : chunk X (src X c) s.val = chunk X c (s.val + 1) := by
  revert X c s; decide +kernel
/-- At the last step a device works on its own row block. -/
theorem chunk_own (X : Fin 4) (c : Dev nD) : chunk X c 15 = c.val := by revert X c; decide +kernel
/-- The sixteen devices upstream of a device are all the devices. -/
theorem src_inj (X : Fin 4) (c : Dev nD) : Function.Injective (fun t : Fin 16 => (src X)^[t.val] c) := by
  revert X c; decide +kernel

theorem row_congr {q q' : ℕ} (h : q = q') {hq hq'} (r : Fin 512) : row q hq r = row q' hq' r := by subst h; rfl

/-- A send's value is the sum of the parts of the devices it has passed. -/
theorem val_apply (X : Fin 4) (r : Fin 512) (l : Fin 1024) : ∀ (s : ℕ) (_ : s < 16) (c : Dev nD),
    (val m X s c (ix3 0 r l) : EReal) = ∑ t ∈ Finset.range (s + 1), dotp m ((src X)^[t] c) (row (chunk X c s) (chunk_lt X c s) r) (col X l)
  | 0, _, c => by
      rw [Finset.sum_range_one]
      exact (begin_apply X _ r l).trans (prt_apply m X c 0 r l)
  | s + 1, hs, c => by
      refine (step_apply X _ _ r l).trans ?_
      rw [Finset.sum_range_succ', val_apply X r l s (by omega) (src X c), prt_apply, row_congr (chunk_src X c ⟨s, by omega⟩)]
      rfl

/-- A device's result at an index. -/
theorem res_apply (X : Fin 4) (c : Dev nD) (r : Fin 512) (l : Fin 1024) :
    (res m X c (ix2 r l) : EReal)
      = (∑ d : Dev nD, dotp m d (row c.val c.isLt r) (col X l)) * Ideal.logistic (∑ d : Dev nD, dotp m d (row c.val c.isLt r) (col X l)) := by
  have h : (val m X 14 (src X c) (ix3 0 r l) : EReal) + (prt m X c 15 (ix2 r (half X l)) : EReal) = ∑ d : Dev nD, dotp m d (row c.val c.isLt r) (col X l) := by
    have hb : Function.Bijective (fun t : Fin 16 => ((src X)^[t.val] c : Fin 16)) := Finite.injective_iff_bijective.1 (src_inj X c)
    rw [val_apply m X r l 14 (by decide), prt_apply,
      row_congr (hq' := c.isLt) (show chunk X (src X c) 14 = c.val from (chunk_src X c 14).trans (chunk_own X c)),
      row_congr (hq' := c.isLt) (chunk_own X c)]
    refine Eq.trans ?_ (Fintype.sum_bijective _ hb (fun t => dotp m ((src X)^[t.val] c) (row c.val c.isLt r) (col X l)) _ fun _ => rfl)
    rw [Fin.sum_univ_eq_sum_range (fun t => dotp m ((src X)^[t] c) (row c.val c.isLt r) (col X l)) 16, Finset.sum_range_succ' _ 15]
    rfl
  refine (final_apply X _ _ r l).trans ?_
  rw [h]

/-! ## All the contracted positions -/

/-- A position of the 8192, as a device and a position of its 512. -/
def pos (d : Fin 16) (k : Fin 512) : Fin 8192 := ⟨512 * d.val + k.val, by omega⟩

theorem sum_pos (f : Fin 8192 → EReal) : ∑ d : Fin 16, ∑ k : Fin 512, f (pos d k) = ∑ K : Fin 8192, f K := by
  rw [← Fintype.sum_prod_type' (fun d k => f (pos d k))]
  refine Fintype.sum_equiv (finProdFinEquiv : Fin 16 × Fin 512 ≃ Fin (16 * 512)) _ _ fun x => congrArg f (Fin.ext ?_)
  show 512 * x.1.val + x.2.val = x.2.val + 512 * x.1.val
  omega

/-- The result from the whole operands, when every device holds its block of them. -/
theorem dotp_sum (x : (⟨2, ![8192, 8192]⟩ : Shape).Idx → EReal) (w : (⟨2, ![8192, 4096]⟩ : Shape).Idx → EReal)
    (hx : ∀ (c : Dev nD) (r : Fin 8192) (k : Fin 512), xOf m c r k = x (ix2 r (pos c k)))
    (hw : ∀ (c : Dev nD) (k : Fin 512) (l : Fin 4096), wOf m c k l = w (ix2 (pos c k) l)) (r : Fin 8192) (l : Fin 4096) :
    ∑ d : Dev nD, dotp m d r l = ∑ K : Fin 8192, x (ix2 r K) * w (ix2 K l) := by
  rw [← sum_pos fun K => x (ix2 r K) * w (ix2 K l)]
  refine Finset.sum_congr rfl fun d _ => Finset.sum_congr rfl fun k _ => ?_
  rw [hx, hw]

/-! ## The last operations -/

/-- `y / (1 + exp (-y))` is `y` times its logistic, at every extended real. -/
theorem silu_eq (y : EReal) : Ideal.div y (1 + Ideal.exp (-y)) = y * Ideal.logistic y := by
  have h0 : 0 ≤ Ideal.exp (-y) := by
    induction (-y) using EReal.rec with
    | bot => exact le_refl _
    | top => exact le_top
    | coe a => exact EReal.coe_nonneg.2 (Real.exp_pos a).le
  have h1 : (1 : EReal) + Ideal.exp (-y) ≠ 0 := fun h => by
    have : (1 : EReal) ≤ 0 := h ▸ le_add_of_nonneg_right h0
    exact absurd this (not_le.2 zero_lt_one)
  rw [Ideal.logistic, Ideal.div, Ideal.div, if_neg h1, if_neg h1, one_mul]

end Cert.RingProof

end
-- ==== Proof.Value.lean ====
/-
Over the extended reals the run ends with every device's block of the reference's result.
-/
module

public import proofs.«01_k».proof.Proof.Sum
public import proofs.«01_k».proof.Proof.Launch
public import proofs.«01_k».proof.Defs
public import proofs.«01_k».proof.Proof.Gen.ReferenceIdeal.Run

@[expose] public section

noncomputable section

namespace Cert.RingProof

open Cert.KernelIdeal Cert.KernelIdeal.Gen

open Idealize.ShloMosaic Idealize.ShloMosaic.ValueIdx
open Idealize.ShloMosaic.TcCoe
open scoped BigOperators

open Idealize.SL.Sem

variable (m : (ℓ : Loc nD τ sig) → Buf (Elt Ideal) ℓ) (ρ : Dev nD → PrngReg)

/-- The result array after the run is what the body left in its staging buffer. -/
theorem finalA_out (c : Dev nD) : finalA m ρ c (2 : Fin 3) = outAt m c := by
  have hz : (fun a => (win0_2.index (0 : Fin 1)) a * main_v1.ty.shape.size a) = fun _ => 0 := funext fun a => by fin_cases a <;> decide
  refine (Memref.read_access_unit_zero (Elt Ideal) main_v1 hz (fun a => by fin_cases a <;> decide) (finalA m ρ c (2 : Fin 3))).symm.trans ?_
  show (win0_2.blk (0 : Fin 1)).view.read (Elt Ideal) (finalA m ρ c (2 : Fin 3)) = _
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

/-- The reference's product at an index. -/
theorem ref_dot_apply (x : FVec Ideal ⟨2, ![8192, 8192]⟩ .f32) (w : FVec Ideal ⟨2, ![8192, 4096]⟩ .f32) (r : Fin 8192) (l : Fin 4096) :
    Host.dotGeneral (F := Ideal) Cert.ReferenceIdeal.dot_S8192x8192_S8192x4096_S8192x4096_1_0_0_1_n_n none x w (ix2 r l)
      = ∑ K : Fin 8192, x (ix2 r K) * w (ix2 K l) :=
  StackMember.dotGeneral_plain_apply none x w r l

/-- A device's left operand, from the whole one, -/
theorem xOf_block (x : (⟨2, ![8192, 8192]⟩ : Shape).Idx → EReal)
    (hx : ∀ c : Dev nD, (m ((c : Thread nD τ).loc main_arg0) : S8192x512.Idx → EReal) = Layout.block ⟨2, ![8192, 512]⟩ ⟨2, ![8192, 8192]⟩ 1 16 c x)
    (c : Dev nD) (r : Fin 8192) (k : Fin 512) : xOf m c r k = x (ix2 r (pos c k)) := by
  unfold xOf
  rw [hx c]
  refine congrArg x (funext fun a => Fin.ext ?_)
  match a with
  | 0 => rfl
  | 1 => show c.val * 512 + k.val = 512 * c.val + k.val; omega

/-- and its right one. -/
theorem wOf_block (w : (⟨2, ![8192, 4096]⟩ : Shape).Idx → EReal)
    (hw : ∀ c : Dev nD, (m ((c : Thread nD τ).loc main_arg1) : S512x4096.Idx → EReal) = Layout.block ⟨2, ![512, 4096]⟩ ⟨2, ![8192, 4096]⟩ 0 16 c w)
    (c : Dev nD) (k : Fin 512) (l : Fin 4096) : wOf m c k l = w (ix2 (pos c k) l) := by
  unfold wOf
  rw [hw c]
  refine congrArg w (funext fun a => Fin.ext ?_)
  match a with
  | 0 => show c.val * 512 + k.val = 512 * c.val + k.val; omega
  | 1 => rfl

/-- A device's result, from the whole operands. -/
theorem out_apply (x : (⟨2, ![8192, 8192]⟩ : Shape).Idx → EReal) (w : (⟨2, ![8192, 4096]⟩ : Shape).Idx → EReal)
    (hx : ∀ c : Dev nD, (m ((c : Thread nD τ).loc main_arg0) : S8192x512.Idx → EReal) = Layout.block ⟨2, ![8192, 512]⟩ ⟨2, ![8192, 8192]⟩ 1 16 c x)
    (hw : ∀ c : Dev nD, (m ((c : Thread nD τ).loc main_arg1) : S512x4096.Idx → EReal) = Layout.block ⟨2, ![512, 4096]⟩ ⟨2, ![8192, 4096]⟩ 0 16 c w)
    (c : Dev nD) (r : Fin 512) (l : Fin 4096) :
    (outAt m c (ix2 r l) : EReal) = (∑ K : Fin 8192, x (ix2 (row c.val c.isLt r) K) * w (ix2 K l))
      * Ideal.logistic (∑ K : Fin 8192, x (ix2 (row c.val c.isLt r) K) * w (ix2 K l)) := by
  have hl : l.val % 1024 < 1024 := Nat.mod_lt _ (by decide)
  have hwi : within (ix2 r l) = ix2 r (⟨l.val % 1024, hl⟩ : Fin 1024) := funext fun a => match a with
    | 0 => rfl
    | 1 => rfl
  have hcol : col (quarter (ix2 r l)) ⟨l.val % 1024, hl⟩ = l := Fin.ext (by
    show 1024 * (l.val / 1024) + l.val % 1024 = l.val
    omega)
  show (res m (quarter (ix2 r l)) c (within (ix2 r l)) : EReal) = _
  rw [hwi]
  refine (res_apply m _ c r _).trans ?_
  rw [hcol, dotp_sum m x w (xOf_block m x hx) (wOf_block m w hw)]

/-- The operations of the reference's text after its product, -/
def refTail (y : FVec Ideal ⟨2, ![8192, 4096]⟩ .f32) : FVec Ideal ⟨2, ![8192, 4096]⟩ .f32 :=
  Host.divf y (addf (broadcastInDim Cert.ReferenceIdeal.S8192x4096 ![] Cert.ReferenceIdeal.Facts₀.bcast_S_S8192x4096 (constant Cert.ReferenceIdeal.S_ .f32 0x3F800000#32)) (Host.exp (Host.negf y)))
/-- and all of them. -/
def refOut (x : FVec Ideal ⟨2, ![8192, 8192]⟩ .bf16) (w : FVec Ideal ⟨2, ![8192, 4096]⟩ .bf16) : FVec Ideal ⟨2, ![8192, 4096]⟩ .f32 :=
  refTail (Host.dotGeneral Cert.ReferenceIdeal.dot_S8192x8192_S8192x4096_S8192x4096_1_0_0_1_n_n none
    (extf .f32 x Cert.ReferenceIdeal.Facts₀.bitsLt_bf16_f32) (extf .f32 w Cert.ReferenceIdeal.Facts₀.bitsLt_bf16_f32))

/-- The word of the one. -/
theorem ofBits_one : Ideal.ofBits .f32 0x3F800000#32 = 1 := by
  simp [Ideal.ofBits, Ideal.ieee]
  rw [← EReal.coe_mul, ← EReal.coe_one]
  norm_num

theorem silu_word (y : EReal) : Ideal.div y (Ideal.ofBits .f32 0x3F800000#32 + Ideal.exp (-y)) = y * Ideal.logistic y := by
  rw [ofBits_one, silu_eq]

theorem refTail_apply (y : FVec Ideal ⟨2, ![8192, 4096]⟩ .f32) (i : (⟨2, ![8192, 4096]⟩ : Shape).Idx) :
    (refTail y i : EReal) = y i * Ideal.logistic (y i) := Eq.trans (by unfold refTail; rfl) (silu_word (y i))

theorem refOut_apply (x : FVec Ideal ⟨2, ![8192, 8192]⟩ .bf16) (w : FVec Ideal ⟨2, ![8192, 4096]⟩ .bf16) (r : Fin 8192) (l : Fin 4096) :
    (refOut x w (ix2 r l) : EReal) = (∑ K : Fin 8192, (x (ix2 r K) : EReal) * (w (ix2 K l) : EReal))
      * Ideal.logistic (∑ K : Fin 8192, (x (ix2 r K) : EReal) * (w (ix2 K l) : EReal)) := by
  unfold refOut
  rw [refTail_apply, ref_dot_apply]
  rfl

/-- The kernel's run, for operands cut over the devices: every device ends with its block of whatever array `v` has
    `y * logistic y` at every index, `y` the product of the whole operands. -/
theorem run_block (x : FVec Ideal ⟨2, ![8192, 8192]⟩ .bf16) (w : FVec Ideal ⟨2, ![8192, 4096]⟩ .bf16) (v : FVec Ideal ⟨2, ![8192, 4096]⟩ .f32)
    (hx : ∀ c : Dev nD, m ((c.tc : Thread nD τ).loc main_arg0) = Layout.block ⟨2, ![8192, 512]⟩ ⟨2, ![8192, 8192]⟩ 1 16 c x)
    (hw : ∀ c : Dev nD, m ((c.tc : Thread nD τ).loc main_arg1) = Layout.block ⟨2, ![512, 4096]⟩ ⟨2, ![8192, 4096]⟩ 0 16 c w)
    (hv : ∀ r l, (v (ix2 r l) : EReal) = (∑ K : Fin 8192, (x (ix2 r K) : EReal) * (w (ix2 K l) : EReal))
      * Ideal.logistic (∑ K : Fin 8192, (x (ix2 r K) : EReal) * (w (ix2 K l) : EReal))) :
    θ_run (defs (F := Ideal)) (onTc (τ := τ) (main (F := Ideal))) ⟨m, fun _ => 0, ρ⟩ (fun r => ∀ c : Dev nD,
      r.2.mem ((c.tc : Thread nD τ).loc main_v1) = Layout.block ⟨2, ![512, 4096]⟩ ⟨2, ![8192, 4096]⟩ 0 16 c v
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono
    (fun _ h c => ⟨(h.1 c (2 : Fin 3)).trans ((finalA_out m ρ c).trans ?_), (h.1 c (0 : Fin 3)).trans (finalA_x m ρ c), (h.1 c (1 : Fin 3)).trans (finalA_w m ρ c)⟩)
    (run_main m ρ)
  funext i
  rw [eq_ix2 i]
  refine (out_apply m x w hx hw c (i 0) (i 1)).trans ?_
  refine (hv (row c.val c.isLt (i 0)) (i 1)).symm.trans (congrArg v (funext fun a => Fin.ext ?_))
  match a with
  | 0 => show 512 * c.val + (i 0).val = c.val * 512 + (i 0).val; omega
  | 1 => rfl

set_option maxRecDepth 20000 in
/-- The algebraic claim. -/
theorem value : Cert.algebraic_KernelIdeal_ReferenceIdeal (hKernelIdeal := Cert.KernelIdeal.Gen.facts) (hReferenceIdeal := Cert.ReferenceIdeal.Gen.facts) :=
  fun m g m' g' _ hag => ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    run_block m g _ _ _ (fun c => (hag c).1) (fun c => (hag c).2) (refOut_apply _ _),
    (θ_run Cert.ReferenceIdeal.defs _ _).mono (fun _ h => h 0) (Cert.ReferenceIdeal.Value.run (F := Ideal) m' g')⟩

end Cert.RingProof

end
-- ==== Proof.Guarded.lean ====
/-
The reference with its exponent kept within ±60: where every device's part of the product is at most 60/16 the guard
changes nothing, and the run ends with every device's block of that reference's result too.
-/
module

public import proofs.«01_k».proof.Proof.Value
public import proofs.«01_k».proof.Proof.Frames
public import proofs.«01_k».proof.Proof.Gen.GuardedIdeal
public import proofs.«01_k».proof.Proof.Gen.GuardedIdeal.Run
public import proofs.«01_k».proof.Proof.Gen.Pre_small_parts_KernelIdeal
public import proofs.«01_k».proof.Proof.Gen.Pre_small_parts_GuardedIdeal

@[expose] public section

noncomputable section

namespace Cert.RingProof

open Cert.KernelIdeal Cert.KernelIdeal.Gen

open Idealize.ShloMosaic Idealize.ShloMosaic.ValueIdx
open Idealize.ShloMosaic.TcCoe
open scoped BigOperators

open Idealize.SL.Sem

variable (m : (ℓ : Loc nD τ sig) → Buf (Elt Ideal) ℓ) (ρ : Dev nD → PrngReg)

/-! ## The words of the bounds -/

theorem ofBits_part : Ideal.ofBits .f32 0x40700000#32 = ((3.75 : ℝ) : EReal) := by
  simp [Ideal.ofBits, Ideal.ieee]
  rw [← EReal.coe_mul]
  norm_num

theorem ofBits_upper : Ideal.ofBits .f32 0x42700000#32 = ((60 : ℝ) : EReal) := by
  simp [Ideal.ofBits, Ideal.ieee]
  rw [← EReal.coe_mul]
  norm_num

theorem ofBits_lower : Ideal.ofBits .f32 0xC2700000#32 = ((-60 : ℝ) : EReal) := by
  simp [Ideal.ofBits, Ideal.ieee]
  rw [← EReal.coe_mul]
  norm_num

/-! ## What the precondition says of the product -/

/-- One device's product at an index. -/
theorem part_dot_apply (x : FVec Ideal ⟨2, ![8192, 512]⟩ .f32) (w : FVec Ideal ⟨2, ![512, 4096]⟩ .f32) (r : Fin 8192) (l : Fin 4096) :
    Host.dotGeneral (F := Ideal) Cert.Pre_small_parts_KernelIdeal.dot_S8192x512_S512x4096_S8192x4096_1_0_0_1_n_n none x w (ix2 r l)
      = ∑ k : Fin 512, x (ix2 r k) * w (ix2 k l) :=
  StackMember.dotGeneral_plain_apply none x w r l

/-- A comparison that came out one holds. -/
theorem le_of_cmp {a b : EReal} (h : Ideal.cmp .ole a b = 1#1) : a ≤ b := by
  by_contra hn
  simp [Ideal.cmp, hn] at h

/-- The precondition at an index: the size of the device's product is at most the word of 60/16. -/
theorem part_word (x : FVec Ideal S8192x512 .bf16) (w : FVec Ideal S512x4096 .bf16)
    (h : Cert.Pre_small_parts_KernelIdeal.fn (F := Ideal) x w = fun _ => 1#1) (r : Fin 8192) (l : Fin 4096) :
    max (∑ k : Fin 512, (x (ix2 r k) : EReal) * (w (ix2 k l) : EReal)) (-∑ k : Fin 512, (x (ix2 r k) : EReal) * (w (ix2 k l) : EReal))
      ≤ Ideal.ofBits .f32 0x40700000#32 := by
  have h1 := congrFun h (ix2 r l)
  have h2 := le_of_cmp (a := max (Host.dotGeneral (F := Ideal) Cert.Pre_small_parts_KernelIdeal.dot_S8192x512_S512x4096_S8192x4096_1_0_0_1_n_n none
      (extf .f32 x Cert.Pre_small_parts_KernelIdeal.Facts.bitsLt_bf16_f32) (extf .f32 w Cert.Pre_small_parts_KernelIdeal.Facts.bitsLt_bf16_f32) (ix2 r l))
    (-(Host.dotGeneral (F := Ideal) Cert.Pre_small_parts_KernelIdeal.dot_S8192x512_S512x4096_S8192x4096_1_0_0_1_n_n none
      (extf .f32 x Cert.Pre_small_parts_KernelIdeal.Facts.bitsLt_bf16_f32) (extf .f32 w Cert.Pre_small_parts_KernelIdeal.Facts.bitsLt_bf16_f32) (ix2 r l) : EReal)))
    (b := Ideal.ofBits .f32 0x40700000#32) h1
  rw [part_dot_apply] at h2
  exact h2

/-- Sixteen extended reals of size at most 60/16 have a sum within ±60. -/
theorem sum_parts (f : Dev nD → EReal) (hf : ∀ d, max (f d) (-f d) ≤ ((3.75 : ℝ) : EReal)) :
    ((-60 : ℝ) : EReal) ≤ ∑ d, f d ∧ ∑ d, f d ≤ ((60 : ℝ) : EReal) := by
  have hcard : (Finset.univ : Finset (Dev nD)).card = 16 := by decide
  have hup := Finset.sum_le_card_nsmul Finset.univ f ((3.75 : ℝ) : EReal) (fun d _ => (le_max_left _ _).trans (hf d))
  have hlo := Finset.card_nsmul_le_sum Finset.univ f ((-3.75 : ℝ) : EReal) (fun d _ => by
    have := (le_max_right _ _).trans (hf d)
    rw [EReal.coe_neg]
    exact EReal.neg_le.mp this)
  rw [hcard, ← EReal.coe_nsmul] at hup hlo
  refine ⟨le_trans (le_of_eq (congrArg _ ?_)) hlo, le_trans hup (le_of_eq (congrArg _ ?_))⟩
  · norm_num
  · norm_num

/-- Under the precondition every entry of the whole product lies within ±60. -/
theorem product_within (hpre : Cert.Pre_KernelIdeal_small_parts_KernelIdeal (hPre_small_parts_KernelIdeal := Cert.Pre_small_parts_KernelIdeal.Gen.facts) m)
    (x : FVec Ideal ⟨2, ![8192, 8192]⟩ .bf16) (w : FVec Ideal ⟨2, ![8192, 4096]⟩ .bf16)
    (hx : ∀ c : Dev nD, m ((c.tc : Thread nD τ).loc main_arg0) = Layout.block ⟨2, ![8192, 512]⟩ ⟨2, ![8192, 8192]⟩ 1 16 c x)
    (hw : ∀ c : Dev nD, m ((c.tc : Thread nD τ).loc main_arg1) = Layout.block ⟨2, ![512, 4096]⟩ ⟨2, ![8192, 4096]⟩ 0 16 c w)
    (r : Fin 8192) (l : Fin 4096) :
    ((-60 : ℝ) : EReal) ≤ (∑ K : Fin 8192, (x (ix2 r K) : EReal) * (w (ix2 K l) : EReal))
      ∧ (∑ K : Fin 8192, (x (ix2 r K) : EReal) * (w (ix2 K l) : EReal)) ≤ ((60 : ℝ) : EReal) := by
  have h := sum_parts (fun d => dotp m d r l) (fun d => (part_word _ _ (hpre d) r l).trans (le_of_eq ofBits_part))
  rw [dotp_sum m x w (xOf_block m x hx) (wOf_block m w hw)] at h
  exact h

/-! ## The guarded reference -/

/-- The operations of the guarded reference after its product, -/
def guardTail (y : FVec Ideal ⟨2, ![8192, 4096]⟩ .f32) : FVec Ideal ⟨2, ![8192, 4096]⟩ .f32 :=
  Host.divf y (addf (broadcastInDim Cert.GuardedIdeal.S8192x4096 ![] Cert.GuardedIdeal.Facts₀.bcast_S_S8192x4096 (constant Cert.GuardedIdeal.S_ .f32 0x3F800000#32))
    (Host.exp (Host.negf (minimumf (broadcastInDim Cert.GuardedIdeal.S8192x4096 ![] Cert.GuardedIdeal.Facts₀.bcast_S_S8192x4096 (id (constant Cert.GuardedIdeal.S_ .f32 0x42700000#32)))
      (maximumf (broadcastInDim Cert.GuardedIdeal.S8192x4096 ![] Cert.GuardedIdeal.Facts₀.bcast_S_S8192x4096 (id (constant Cert.GuardedIdeal.S_ .f32 0xC2700000#32))) y)))))
/-- and all of them. -/
def guardOut (x : FVec Ideal ⟨2, ![8192, 8192]⟩ .bf16) (w : FVec Ideal ⟨2, ![8192, 4096]⟩ .bf16) : FVec Ideal ⟨2, ![8192, 4096]⟩ .f32 :=
  guardTail (Host.dotGeneral Cert.GuardedIdeal.dot_S8192x8192_S8192x4096_S8192x4096_1_0_0_1_n_n none
    (extf .f32 x Cert.GuardedIdeal.Facts₀.bitsLt_bf16_f32) (extf .f32 w Cert.GuardedIdeal.Facts₀.bitsLt_bf16_f32))

/-- The guarded silu of one value, in the words of the text, is the plain one where the value lies within ±60. -/
theorem guard_word (y : EReal) (hlo : ((-60 : ℝ) : EReal) ≤ y) (hhi : y ≤ ((60 : ℝ) : EReal)) :
    Ideal.div y (Ideal.ofBits .f32 0x3F800000#32 + Ideal.exp (-(min (Ideal.ofBits .f32 0x42700000#32) (max (Ideal.ofBits .f32 0xC2700000#32) y))))
      = y * Ideal.logistic y := by
  rw [ofBits_upper, ofBits_lower, max_eq_right hlo, min_eq_right hhi, silu_word]

theorem guardTail_apply (y : FVec Ideal ⟨2, ![8192, 4096]⟩ .f32) (i : (⟨2, ![8192, 4096]⟩ : Shape).Idx)
    (hlo : ((-60 : ℝ) : EReal) ≤ y i) (hhi : y i ≤ ((60 : ℝ) : EReal)) :
    (guardTail y i : EReal) = y i * Ideal.logistic (y i) := Eq.trans (by unfold guardTail; rfl) (guard_word (y i) hlo hhi)

/-- The guarded reference's product at an index. -/
theorem guard_dot_apply (x : FVec Ideal ⟨2, ![8192, 8192]⟩ .f32) (w : FVec Ideal ⟨2, ![8192, 4096]⟩ .f32) (r : Fin 8192) (l : Fin 4096) :
    Host.dotGeneral (F := Ideal) Cert.GuardedIdeal.dot_S8192x8192_S8192x4096_S8192x4096_1_0_0_1_n_n none x w (ix2 r l)
      = ∑ K : Fin 8192, x (ix2 r K) * w (ix2 K l) :=
  StackMember.dotGeneral_plain_apply none x w r l

theorem guardOut_apply (x : FVec Ideal ⟨2, ![8192, 8192]⟩ .bf16) (w : FVec Ideal ⟨2, ![8192, 4096]⟩ .bf16)
    (h : ∀ r l, ((-60 : ℝ) : EReal) ≤ (∑ K : Fin 8192, (x (ix2 r K) : EReal) * (w (ix2 K l) : EReal))
      ∧ (∑ K : Fin 8192, (x (ix2 r K) : EReal) * (w (ix2 K l) : EReal)) ≤ ((60 : ℝ) : EReal)) (r : Fin 8192) (l : Fin 4096) :
    (guardOut x w (ix2 r l) : EReal) = (∑ K : Fin 8192, (x (ix2 r K) : EReal) * (w (ix2 K l) : EReal))
      * Ideal.logistic (∑ K : Fin 8192, (x (ix2 r K) : EReal) * (w (ix2 K l) : EReal)) := by
  have hd : (Host.dotGeneral (F := Ideal) Cert.GuardedIdeal.dot_S8192x8192_S8192x4096_S8192x4096_1_0_0_1_n_n none
      (extf .f32 x Cert.GuardedIdeal.Facts₀.bitsLt_bf16_f32) (extf .f32 w Cert.GuardedIdeal.Facts₀.bitsLt_bf16_f32) (ix2 r l) : EReal)
      = ∑ K : Fin 8192, (x (ix2 r K) : EReal) * (w (ix2 K l) : EReal) := guard_dot_apply _ _ r l
  unfold guardOut
  rw [guardTail_apply _ _ (hd ▸ (h r l).1) (hd ▸ (h r l).2), hd]

set_option maxRecDepth 20000 in
/-- The algebraic claim against the guarded reference. -/
theorem value_guarded : Cert.algebraic_KernelIdeal_GuardedIdeal_pre_small_parts_KernelIdeal (hKernelIdeal := Cert.KernelIdeal.Gen.facts)
    (hGuardedIdeal := Cert.GuardedIdeal.Gen.facts) (hPre_small_parts_KernelIdeal := Cert.Pre_small_parts_KernelIdeal.Gen.facts) :=
  fun m g m' g' hpre hag => ⟨guardOut (m' (((0 : Dev Cert.GuardedIdeal.nD).tc : Thread Cert.GuardedIdeal.nD Cert.GuardedIdeal.τ).loc Cert.GuardedIdeal.main_arg0))
      (m' (((0 : Dev Cert.GuardedIdeal.nD).tc : Thread Cert.GuardedIdeal.nD Cert.GuardedIdeal.τ).loc Cert.GuardedIdeal.main_arg1)),
    run_block m g _ _ _ (fun c => (hag c).1) (fun c => (hag c).2)
      (guardOut_apply _ _ (product_within m hpre _ _ (fun c => (hag c).1) (fun c => (hag c).2))),
    (θ_run Cert.GuardedIdeal.defs _ _).mono (fun _ h => h 0) (Cert.GuardedIdeal.Value.run (F := Ideal) m' g')⟩

/-! ## The frames -/

theorem frame_guarded : Cert.quiescent_GuardedIdeal (hGuardedIdeal := Cert.GuardedIdeal.Gen.facts) := fun m ρ _ =>
  (θ_run Cert.GuardedIdeal.defs _ _).mono
    (fun r h => ⟨fun c => (h c).2, sem_eq_zero_of_no_sems (by decide) r.2⟩)
    (Cert.GuardedIdeal.Value.run (F := Ideal) m ρ)

/-- The frames hold of every memory, so of those with small parts. -/
theorem frame_guarded_pre : Cert.quiescent_GuardedIdeal_pre_small_parts_GuardedIdeal (hGuardedIdeal := Cert.GuardedIdeal.Gen.facts)
    (hPre_small_parts_GuardedIdeal := Cert.Pre_small_parts_GuardedIdeal.Gen.facts) := fun m ρ _ => frame_guarded m ρ trivial

theorem frame_ideal_pre : Cert.quiescent_KernelIdeal_pre_small_parts_KernelIdeal (hKernelIdeal := Cert.KernelIdeal.Gen.facts)
    (hPre_small_parts_KernelIdeal := Cert.Pre_small_parts_KernelIdeal.Gen.facts) := fun m ρ _ => frame_run m ρ

end Cert.RingProof

end
-- ==== Proof.lean ====
/-
The certificate: the kernel's run on every float carrier gives its two frames, the reference's run the reference's frame,
and over the extended reals the two runs' results agree block by block, with the guarded reference under its precondition too.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.GuardedIdeal
public import proofs.«01_k».proof.Proof.Gen.GuardedIdeal.Run
public import proofs.«01_k».proof.Proof.Gen.Pre_small_parts_KernelIdeal
public import proofs.«01_k».proof.Proof.Gen.Pre_small_parts_GuardedIdeal
public import proofs.«01_k».proof.Proof.Frames
public import proofs.«01_k».proof.Proof.Value
public import proofs.«01_k».proof.Proof.Guarded
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.GuardedIdeal.Gen.facts,
    Cert.Pre_small_parts_KernelIdeal.Gen.facts, Cert.Pre_small_parts_GuardedIdeal.Gen.facts,
    Cert.RingProof.frame_kernel, Cert.RingProof.frame_ideal, Cert.RingProof.frame_ideal_pre, Cert.RingProof.frame_reference,
    Cert.RingProof.frame_guarded, Cert.RingProof.frame_guarded_pre, trivial, Cert.RingProof.value, Cert.RingProof.value_guarded⟩

end Cert.Proof

end
